-- ==== Defs.lean ====
def Pre_Kernel [hPre_ids_nonneg : Cert.Pre_ids_nonneg.Facts] (m : (ℓ : Loc Cert.Kernel.nD Cert.Kernel.τ Cert.Kernel.sig) → Buf (Elt Bits) ℓ) : Prop :=
  ∀ c : Dev Cert.Kernel.nD,
    (Cert.Pre_ids_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_ids_nonneg : Cert.Pre_ids_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] [hPre_ids_nonneg : Cert.Pre_ids_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_ids_nonneg : Cert.Pre_ids_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ids_nonneg : Cert.Pre_ids_nonneg.Facts) (hPre_finite_logits : Cert.Pre_finite_logits.Facts),
    quiescent_Kernel (hKernel := hKernel) (hPre_ids_nonneg := hPre_ids_nonneg)
    ∧ quiescent_KernelIdeal (hKernelIdeal := hKernelIdeal) (hPre_ids_nonneg := hPre_ids_nonneg)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S100000x128 : Shape := ⟨2, ![100000, 128]⟩
abbrev S512x128 : Shape := ⟨2, ![512, 128]⟩
abbrev S100000 : Shape := ⟨1, ![100000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S100000 : S_.BroadcastsInDim S100000 (![] : Fin 0 → Fin S100000.rank)
  bcast_S_S100000x128 : S_.BroadcastsInDim S100000x128 (![] : Fin 0 → Fin S100000x128.rank)
  bcast_S_S512x128 : S_.BroadcastsInDim S512x128 (![] : Fin 0 → Fin S512x128.rank)
  bcast_S_S1x256 : S_.BroadcastsInDim S1x256 (![] : Fin 0 → Fin S1x256.rank)
  bcast_S_S1 : S_.BroadcastsInDim S1 (![] : Fin 0 → Fin S1.rank)
  bcast_S_S128x128 : S_.BroadcastsInDim S128x128 (![] : Fin 0 → Fin S128x128.rank)

variable [Facts]

def fn {F : FTy → Type} [FloatOps F] (main_arg0 : FVec F S100000x128 .f32) (main_arg1 : FVec F S512x128 .f32) (main_arg2 : IVec S100000 32) (main_arg3 : FVec F S1x256 .f32) (main_arg4 : FVec F S1 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) : IVec S100000 1 × IVec S100000x128 1 × IVec S512x128 1 × IVec S1x256 1 × IVec S1 1 × IVec S128x128 1 :=
  let main_c : IVec S_ 32 := constantI S_ 32 0#32
  let main_v0 : IVec S100000 32 := broadcastInDim S100000 ![] bcast_S_S100000 main_c
  let main_v1 : IVec S100000 1 := cmpi .sge main_arg2 main_v0
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_arg1 main_v5
  let main_v7 : FVec F S1x256 .f32 := Host.absf main_arg3
  let main_cst_1 : FVec F S_ .f32 := constant S_ .f32 0x7F800000#32
  let main_v8 : FVec F S1x256 .f32 := broadcastInDim S1x256 ![] bcast_S_S1x256 main_cst_1
  let main_v9 : IVec S1x256 1 := cmpf .olt main_v7 main_v8
  let main_v10 : FVec F S1 .f32 := Host.absf main_arg4
  let main_cst_2 : FVec F S_ .f32 := constant S_ .f32 0x7F800000#32
  let main_v11 : FVec F S1 .f32 := broadcastInDim S1 ![] bcast_S_S1 main_cst_2
  let main_v12 : IVec S1 1 := cmpf .olt main_v10 main_v11
  let main_v13 : FVec F S128x128 .f32 := Host.absf main_arg5
  let main_cst_3 : FVec F S_ .f32 := constant S_ .f32 0x7F800000#32
  let main_v14 : FVec F S128x128 .f32 := broadcastInDim S128x128 ![] bcast_S_S128x128 main_cst_3
  let main_v15 : IVec S128x128 1 := cmpf .olt main_v13 main_v14
  (main_v1, main_v4, main_v6, main_v9, main_v12, main_v15)
-- ==== Pre_ids_nonneg.lean ====
abbrev S100000x128 : Shape := ⟨2, ![100000, 128]⟩
abbrev S512x128 : Shape := ⟨2, ![512, 128]⟩
abbrev S100000 : Shape := ⟨1, ![100000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : FVec F S512x128 .f32) (main_arg2 : IVec S100000 32) (main_arg3 : FVec F S1x256 .f32) (main_arg4 : FVec F S1 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) : IVec S100000 1 :=
  let main_c : IVec S_ 32 := constantI S_ 32 0#32
  let main_v0 : IVec S100000 32 := broadcastInDim S100000 ![] bcast_S_S100000 main_c
  let main_v1 : IVec S100000 1 := cmpi .sge main_arg2 main_v0
  main_v1
-- ==== Kernel.lean ====
abbrev S100000x128 : Shape := ⟨2, ![100000, 128]⟩
abbrev S512x128 : Shape := ⟨2, ![512, 128]⟩
abbrev S100000 : Shape := ⟨1, ![100000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S384x128 : Shape := ⟨2, ![384, 128]⟩
abbrev S384 : Shape := ⟨1, ![384]⟩
abbrev S20x1x5000 : Shape := ⟨3, ![20, 1, 5000]⟩
abbrev S2x128 : Shape := ⟨2, ![2, 128]⟩
abbrev S1x1 : Shape := ⟨2, ![1, 1]⟩
abbrev S1x128 : Shape := ⟨2, ![1, 128]⟩
abbrev S1x384 : Shape := ⟨2, ![1, 384]⟩
abbrev S5000x128 : Shape := ⟨2, ![5000, 128]⟩
abbrev S1x1x5000 : Shape := ⟨3, ![1, 1, 5000]⟩
abbrev S512x1 : Shape := ⟨2, ![512, 1]⟩
abbrev S512 : Shape := ⟨1, ![512]⟩
abbrev S1x5000 : Shape := ⟨2, ![1, 5000]⟩
abbrev S1x1x1 : Shape := ⟨3, ![1, 1, 1]⟩
abbrev S64x5000 : Shape := ⟨2, ![64, 5000]⟩
abbrev S64x1 : Shape := ⟨2, ![64, 1]⟩
abbrev S5000 : Shape := ⟨1, ![5000]⟩
abbrev S64 : Shape := ⟨1, ![64]⟩
abbrev S64x128 : Shape := ⟨2, ![64, 128]⟩
abbrev S512x5000 : Shape := ⟨2, ![512, 5000]⟩
abbrev S512x384 : Shape := ⟨2, ![512, 384]⟩

abbrev nBuf : Space → Nat
  | .hbm => 18
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S512x128, .f32⟩
  | .hbm, ⟨2, _⟩ => ⟨S100000, .i32⟩
  | .hbm, ⟨3, _⟩ => ⟨S1x256, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S20x1x5000, .i32⟩
  | .hbm, ⟨12, _⟩ => ⟨S2x128, .f32⟩
  | .hbm, ⟨13, _⟩ => ⟨S1x1, .f32⟩
  | .hbm, ⟨14, _⟩ => ⟨S1x128, .f32⟩
  | .hbm, ⟨15, _⟩ => ⟨S1x384, .f32⟩
  | .hbm, ⟨16, _⟩ => ⟨S1x384, .f32⟩
  | .hbm, ⟨17, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S512x128, .f32⟩
  | .local _ .vmem, ⟨5, _⟩ => ⟨S2x128, .f32⟩
  | .local _ .vmem, ⟨6, _⟩ => ⟨S1x1, .f32⟩
  | .local _ .vmem, ⟨7, _⟩ => ⟨S128x128, .f32⟩
  | .local _ .vmem, ⟨8, _⟩ => ⟨S1x128, .f32⟩
  | .local _ .vmem, ⟨9, _⟩ => ⟨S384x128, .f32⟩
  | .local _ .vmem, ⟨10, _⟩ => ⟨S384x128, .f32⟩
  | .local _ .vmem, ⟨11, _⟩ => ⟨S1x384, .f32⟩
  | .local _ .vmem, ⟨12, _⟩ => ⟨S1x384, .f32⟩
  | .local _ .vmem, ⟨13, _⟩ => ⟨S512x128, .f32⟩
  | .local _ .vmem, ⟨14, _⟩ => ⟨S512x1, .f32⟩
  | .local _ .vmem, ⟨15, _⟩ => ⟨S1x1, .f32⟩
  | .local _ .vmem, ⟨16, _⟩ => ⟨S512x1, .f32⟩
  | .local _ .vmem, ⟨17, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![20], ![false]⟩

def k0_off1 (v9 : BitVec 32) : Fin 2 → Nat :=
  let c0_i32_6 : BitVec 32 := 0#32
  let v15 : BitVec 1 := Scalar.cmpi .sgt v9 c0_i32_6
  let v16 : BitVec 32 := Scalar.extui v15
  let c0_i32_7 : BitVec 32 := 0#32
  let v17 : BitVec 1 := Scalar.cmpi .slt v9 c0_i32_7
  let v18 : BitVec 32 := Scalar.extui v17
  let v19 : BitVec 32 := Scalar.subi v16 v18
  let c8_i32 : BitVec 32 := 8#32
  let c0_i32_8 : BitVec 32 := 0#32
  let v20 : BitVec 1 := Scalar.cmpi .sgt c8_i32 c0_i32_8
  let v21 : BitVec 32 := Scalar.extui v20
  let c0_i32_9 : BitVec 32 := 0#32
  let v22 : BitVec 1 := Scalar.cmpi .slt c8_i32 c0_i32_9
  let v23 : BitVec 32 := Scalar.extui v22
  let v24 : BitVec 32 := Scalar.subi v21 v23
  let v25 : BitVec 1 := Scalar.cmpi .ne v19 v24
  let v26 : BitVec 32 := Scalar.remsi v9 c8_i32
  let c0_i32_10 : BitVec 32 := 0#32
  let v27 : BitVec 1 := Scalar.cmpi .ne v26 c0_i32_10
  let v28 : BitVec 1 := Scalar.andi v25 v27
  let v14 : BitVec 32 := Scalar.divsi v9 c8_i32
  let c1_i32 : BitVec 32 := 1#32
  let v29 : BitVec 32 := Scalar.subi v14 c1_i32
  let v30 : BitVec 32 := Scalar.select v28 v29 v14
  let c8_i32_11 : BitVec 32 := 8#32
  let v31 : BitVec 32 := Scalar.muli v30 c8_i32_11
  let c448_i32 : BitVec 32 := 448#32
  let v32 : BitVec 32 := Scalar.minsi v31 c448_i32
  let v51 : Index := Scalar.indexCast v32
  let c0_17 : Index := 0#32
  ![v51.toNat, 0]
def k0_cond2 (v9 : BitVec 32) (v13 : BitVec 32) : BitVec 1 :=
  let c0_i32_6 : BitVec 32 := 0#32
  let v15 : BitVec 1 := Scalar.cmpi .sgt v9 c0_i32_6
  let v16 : BitVec 32 := Scalar.extui v15
  let c0_i32_7 : BitVec 32 := 0#32
  let v17 : BitVec 1 := Scalar.cmpi .slt v9 c0_i32_7
  let v18 : BitVec 32 := Scalar.extui v17
  let v19 : BitVec 32 := Scalar.subi v16 v18
  let c8_i32 : BitVec 32 := 8#32
  let c0_i32_8 : BitVec 32 := 0#32
  let v20 : BitVec 1 := Scalar.cmpi .sgt c8_i32 c0_i32_8
  let v21 : BitVec 32 := Scalar.extui v20
  let c0_i32_9 : BitVec 32 := 0#32
  let v22 : BitVec 1 := Scalar.cmpi .slt c8_i32 c0_i32_9
  let v23 : BitVec 32 := Scalar.extui v22
  let v24 : BitVec 32 := Scalar.subi v21 v23
  let v25 : BitVec 1 := Scalar.cmpi .ne v19 v24
  let v26 : BitVec 32 := Scalar.remsi v9 c8_i32
  let c0_i32_10 : BitVec 32 := 0#32
  let v27 : BitVec 1 := Scalar.cmpi .ne v26 c0_i32_10
  let v28 : BitVec 1 := Scalar.andi v25 v27
  let v14 : BitVec 32 := Scalar.divsi v9 c8_i32
  let c1_i32 : BitVec 32 := 1#32
  let v29 : BitVec 32 := Scalar.subi v14 c1_i32
  let v30 : BitVec 32 := Scalar.select v28 v29 v14
  let c8_i32_11 : BitVec 32 := 8#32
  let v31 : BitVec 32 := Scalar.muli v30 c8_i32_11
  let c448_i32 : BitVec 32 := 448#32
  let v32 : BitVec 32 := Scalar.minsi v31 c448_i32
  let v33 : BitVec 32 := Scalar.subi v13 v32
  let c64_i32 : BitVec 32 := 64#32
  let v34 : BitVec 1 := Scalar.cmpi .slt v33 c64_i32
  let v38 : BitVec 32 := Scalar.extui v34
  let c0_i32_14 : BitVec 32 := 0#32
  let v39 : BitVec 1 := Scalar.cmpi .ne v38 c0_i32_14
  v39

def k0_off2 (v9 : BitVec 32) : Fin 2 → Nat :=
  let c0_i32_6 : BitVec 32 := 0#32
  let v15 : BitVec 1 := Scalar.cmpi .sgt v9 c0_i32_6
  let v16 : BitVec 32 := Scalar.extui v15
  let c0_i32_7 : BitVec 32 := 0#32
  let v17 : BitVec 1 := Scalar.cmpi .slt v9 c0_i32_7
  let v18 : BitVec 32 := Scalar.extui v17
  let v19 : BitVec 32 := Scalar.subi v16 v18
  let c8_i32 : BitVec 32 := 8#32
  let c0_i32_8 : BitVec 32 := 0#32
  let v20 : BitVec 1 := Scalar.cmpi .sgt c8_i32 c0_i32_8
  let v21 : BitVec 32 := Scalar.extui v20
  let c0_i32_9 : BitVec 32 := 0#32
  let v22 : BitVec 1 := Scalar.cmpi .slt c8_i32 c0_i32_9
  let v23 : BitVec 32 := Scalar.extui v22
  let v24 : BitVec 32 := Scalar.subi v21 v23
  let v25 : BitVec 1 := Scalar.cmpi .ne v19 v24
  let v26 : BitVec 32 := Scalar.remsi v9 c8_i32
  let c0_i32_10 : BitVec 32 := 0#32
  let v27 : BitVec 1 := Scalar.cmpi .ne v26 c0_i32_10
  let v28 : BitVec 1 := Scalar.andi v25 v27
  let v14 : BitVec 32 := Scalar.divsi v9 c8_i32
  let c1_i32 : BitVec 32 := 1#32
  let v29 : BitVec 32 := Scalar.subi v14 c1_i32
  let v30 : BitVec 32 := Scalar.select v28 v29 v14
  let c8_i32_11 : BitVec 32 := 8#32
  let v31 : BitVec 32 := Scalar.muli v30 c8_i32_11
  let c448_i32 : BitVec 32 := 448#32
  let v32 : BitVec 32 := Scalar.minsi v31 c448_i32
  let v110 : Index := Scalar.indexCast v32
  let c0_42 : Index := 0#32
  ![v110.toNat, 0]

def k0_chk1 (v9 : BitVec 32) (v13 : BitVec 32) : Prop :=
  (∀ (k0_h2 : k0_cond2 v9 v13 = 1#1), ∀ a, (k0_off1 v9) a + S64x1.size a ≤ S512x1.size a) ∧
  (∀ (k0_h2 : k0_cond2 v9 v13 = 1#1), ∀ a, (k0_off2 v9) a + S64x128.size a ≤ S512x128.size a)
theorem k0_off1_inb : ∀ (v9 : BitVec 32) (v13 : BitVec 32) (k0_hw1 : k0_chk1 v9 v13), ∀ (k0_h2 : k0_cond2 v9 v13 = 1#1), ∀ a, (k0_off1 v9) a + S64x1.size a ≤ S512x1.size a := fun v9 v13 k0_hw1 k0_h2 => k0_hw1.1 k0_h2
theorem k0_off2_inb : ∀ (v9 : BitVec 32) (v13 : BitVec 32) (k0_hw1 : k0_chk1 v9 v13), ∀ (k0_h2 : k0_cond2 v9 v13 = 1#1), ∀ a, (k0_off2 v9) a + S64x128.size a ≤ S512x128.size a := fun v9 v13 k0_hw1 k0_h2 => k0_hw1.2 k0_h2

def k0_cond4 (i : grid0.Coords) : BitVec 1 :=
  let arg0 : BitVec 32 := BitVec.ofNat 32 (i 0).val
  let c19_i32 : BitVec 32 := 19#32
  let v43 : BitVec 1 := Scalar.cmpi .eq arg0 c19_i32
  let v44 : BitVec 32 := Scalar.extui v43
  let c0_i32_16 : BitVec 32 := 0#32
  let v45 : BitVec 1 := Scalar.cmpi .ne v44 c0_i32_16
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S100000x128 : Shape := ⟨2, ![100000, 128]⟩
abbrev S512x128 : Shape := ⟨2, ![512, 128]⟩
abbrev S100000 : Shape := ⟨1, ![100000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩
abbrev S100000x1 : Shape := ⟨2, ![100000, 1]⟩
abbrev S1x1 : Shape := ⟨2, ![1, 1]⟩
abbrev S100000x256 : Shape := ⟨2, ![100000, 256]⟩
abbrev S256x1 : Shape := ⟨2, ![256, 1]⟩
abbrev S1x100000 : Shape := ⟨2, ![1, 100000]⟩
abbrev S512 : Shape := ⟨1, ![512]⟩
abbrev S512x1 : Shape := ⟨2, ![512, 1]⟩
abbrev S512x100000 : Shape := ⟨2, ![512, 100000]⟩
abbrev S1x128 : Shape := ⟨2, ![1, 128]⟩
abbrev S128x384 : Shape := ⟨2, ![128, 384]⟩
abbrev S512x384 : Shape := ⟨2, ![512, 384]⟩
abbrev S1x384 : Shape := ⟨2, ![1, 384]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S512x128, .f32⟩
  | 2 => ⟨S100000, .i32⟩
  | 3 => ⟨S1x256, .f32⟩
  | 4 => ⟨S1, .f32⟩
  | 5 => ⟨S128x128, .f32⟩
  | 6 => ⟨S128, .f32⟩
  | 7 => ⟨S384x128, .f32⟩
  | 8 => ⟨S384x128, .f32⟩
  | 9 => ⟨S384, .f32⟩
  | 10 => ⟨S384, .f32⟩
  | 11 => ⟨S_, .f32⟩
  | 12 => ⟨S512x128, .f32⟩
  | 13 => ⟨S512x128, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S1, .i32⟩
  | 23 => ⟨S_, .i32⟩
  | 24 => ⟨S100000x1, .i32⟩
  | 25 => ⟨S100000x1, .i1⟩
  | 26 => ⟨S1x1, .i32⟩
  | 27 => ⟨S100000x1, .i32⟩
  | 28 => ⟨S100000x1, .i1⟩
  | 29 => ⟨S100000x1, .i1⟩
  | 30 => ⟨S_, .i1⟩
  | 31 => ⟨S100000, .i1⟩
  | 32 => ⟨S100000x128, .f32⟩
  | 33 => ⟨S100000x128, .i1⟩
  | 34 => ⟨S_, .f32⟩
  | 35 => ⟨S100000x128, .f32⟩
  | 36 => ⟨S100000x128, .f32⟩
  | 37 => ⟨S100000x256, .f32⟩
  | 38 => ⟨S256x1, .f32⟩
  | 39 => ⟨S100000x1, .f32⟩
  | 40 => ⟨S1x1, .f32⟩
  | 41 => ⟨S100000x1, .f32⟩
  | 42 => ⟨S100000x1, .f32⟩
  | 43 => ⟨S_, .f32⟩
  | 44 => ⟨S100000x1, .f32⟩
  | 45 => ⟨S100000x1, .i1⟩
  | 46 => ⟨S_, .f32⟩
  | 47 => ⟨S100000x1, .f32⟩
  | 48 => ⟨S100000x1, .f32⟩
  | 49 => ⟨S100000x1, .f32⟩
  | 50 => ⟨S1x100000, .i32⟩
  | 51 => ⟨S512, .i32⟩
  | 52 => ⟨S512x1, .i32⟩
  | 53 => ⟨S512x100000, .i32⟩
  | 54 => ⟨S512x100000, .i32⟩
  | 55 => ⟨S512x100000, .i1⟩
  | 56 => ⟨S1x100000, .f32⟩
  | 57 => ⟨S_, .f32⟩
  | 58 => ⟨S_, .f32⟩
  | 59 => ⟨S512x100000, .f32⟩
  | 60 => ⟨S512x100000, .f32⟩
  | 61 => ⟨S512x100000, .f32⟩
  | 62 => ⟨S_, .f32⟩
  | 63 => ⟨S512, .f32⟩
  | 64 => ⟨S512x1, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S1, .i32⟩
  | 74 => ⟨S_, .i32⟩
  | 75 => ⟨S100000x1, .i32⟩
  | 76 => ⟨S100000x1, .i1⟩
  | 77 => ⟨S1x1, .i32⟩
  | 78 => ⟨S100000x1, .i32⟩
  | 79 => ⟨S100000x1, .i1⟩
  | 80 => ⟨S100000x1, .i1⟩
  | 81 => ⟨S_, .i1⟩
  | 82 => ⟨S100000, .i1⟩
  | 83 => ⟨S100000x1, .f32⟩
  | 84 => ⟨S100000x1, .i1⟩
  | 85 => ⟨S_, .f32⟩
  | 86 => ⟨S100000x1, .f32⟩
  | 87 => ⟨S100000x1, .f32⟩
  | 88 => ⟨S100000x1, .f32⟩
  | 89 => ⟨S100000x1, .f32⟩
  | 90 => ⟨S_, .f32⟩
  | 91 => ⟨S512x1, .f32⟩
  | 92 => ⟨S100000x1, .i32⟩
  | 93 => ⟨S512x1, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S1, .i32⟩
  | 103 => ⟨S_, .i32⟩
  | 104 => ⟨S100000x1, .i32⟩
  | 105 => ⟨S100000x1, .i1⟩
  | 106 => ⟨S1x1, .i32⟩
  | 107 => ⟨S100000x1, .i32⟩
  | 108 => ⟨S100000x1, .i1⟩
  | 109 => ⟨S100000x1, .i1⟩
  | 110 => ⟨S_, .i1⟩
  | 111 => ⟨S100000, .i1⟩
  | 112 => ⟨S100000x1, .f32⟩
  | 113 => ⟨S100000x1, .i1⟩
  | 114 => ⟨S_, .f32⟩
  | 115 => ⟨S100000x1, .f32⟩
  | 116 => ⟨S100000x1, .f32⟩
  | 117 => ⟨S100000x1, .f32⟩
  | 118 => ⟨S128x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S512x128, .f32⟩
  | 127 => ⟨S100000x1, .i32⟩
  | _ => ⟨S100000x128, .f32⟩

abbrev hbmTy0_1 (i : Nat) : BufTy := match i % 128 with
  | 0 => ⟨S512x128, .f32⟩
  | 1 => ⟨S_, .f32⟩
  | 2 => ⟨S512x128, .f32⟩
  | 3 => ⟨S512x128, .i1⟩
  | 4 => ⟨S_, .f32⟩
  | 5 => ⟨S512x128, .f32⟩
  | 6 => ⟨S512x128, .i1⟩
  | 7 => ⟨S_, .f32⟩
  | 8 => ⟨S_, .f32⟩
  | 9 => ⟨S512x128, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x128, .f32⟩
  | 16 => ⟨S128x384, .f32⟩
  | 17 => ⟨S512x384, .f32⟩
  | 18 => ⟨S1x384, .f32⟩
  | 19 => ⟨S512x384, .f32⟩
  | 20 => ⟨S512x384, .f32⟩
  | 21 => ⟨S128x384, .f32⟩
  | 22 => ⟨S512x384, .f32⟩
  | 23 => ⟨S1x384, .f32⟩
  | 24 => ⟨S512x384, .f32⟩
  | 25 => ⟨S512x384, .f32⟩
  | 26 => ⟨S512x128, .f32⟩
  | 27 => ⟨S512x128, .f32⟩
  | 28 => ⟨S512x128, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S_, .f32⟩
  | 45 => ⟨S512x128, .f32⟩
  | 46 => ⟨S512x128, .f32⟩
  | 47 => ⟨S_, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S_, .f32⟩
  | 54 => ⟨S512x128, .f32⟩
  | 55 => ⟨S512x128, .f32⟩
  | 56 => ⟨S512x128, .f32⟩
  | 57 => ⟨S512x128, .f32⟩
  | 58 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_v0 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_cst_0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_1 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v20 : Ref sig .tc := ⟨.hbm, 61, rfl⟩
abbrev main_cst_2 : Ref sig .tc := ⟨.hbm, 62, rfl⟩
abbrev main_v21 : Ref sig .tc := ⟨.hbm, 63, rfl⟩
abbrev main_v22 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_c_1 : Ref sig .tc := ⟨.hbm, 73, rfl⟩
abbrev main_call4_c_2 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_3 : Ref sig .tc := ⟨.hbm, 81, rfl⟩
abbrev main_call4_v12 : Ref sig .tc := ⟨.hbm, 82, rfl⟩
abbrev main_call4_v13 : Ref sig .tc := ⟨.hbm, 83, rfl⟩
abbrev main_call4_v14 : Ref sig .tc := ⟨.hbm, 84, rfl⟩
abbrev main_call4_cst : Ref sig .tc := ⟨.hbm, 85, rfl⟩
abbrev main_call4_v15 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_cst_3 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_v5 : Ref sig .tc := ⟨.hbm, 101, rfl⟩
abbrev main_call5_c_1 : Ref sig .tc := ⟨.hbm, 102, rfl⟩
abbrev main_call5_c_2 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_v11 : Ref sig .tc := ⟨.hbm, 109, rfl⟩
abbrev main_call5_c_3 : Ref sig .tc := ⟨.hbm, 110, rfl⟩
abbrev main_call5_v12 : Ref sig .tc := ⟨.hbm, 111, rfl⟩
abbrev main_call5_v13 : Ref sig .tc := ⟨.hbm, 112, rfl⟩
abbrev main_call5_v14 : Ref sig .tc := ⟨.hbm, 113, rfl⟩
abbrev main_call5_cst : Ref sig .tc := ⟨.hbm, 114, rfl⟩
abbrev main_call5_v15 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_cst_4 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_call6_cst : Ref sig .tc := ⟨.hbm, 129, rfl⟩
abbrev main_call6_v0 : Ref sig .tc := ⟨.hbm, 130, rfl⟩
abbrev main_call6_v1 : Ref sig .tc := ⟨.hbm, 131, rfl⟩
abbrev main_call6_cst_0 : Ref sig .tc := ⟨.hbm, 132, rfl⟩
abbrev main_call6_v2 : Ref sig .tc := ⟨.hbm, 133, rfl⟩
abbrev main_call6_v3 : Ref sig .tc := ⟨.hbm, 134, rfl⟩
abbrev main_call6_cst_1 : Ref sig .tc := ⟨.hbm, 135, rfl⟩
abbrev main_call6_call0_v0 : Ref sig .tc := ⟨.hbm, 136, rfl⟩
abbrev main_call6_call0_v1 : Ref sig .tc := ⟨.hbm, 137, rfl⟩
abbrev main_call6_v4 : Ref sig .tc := ⟨.hbm, 138, rfl⟩
abbrev main_call6_v5 : Ref sig .tc := ⟨.hbm, 139, rfl⟩
abbrev main_call6_cst_2 : Ref sig .tc := ⟨.hbm, 140, rfl⟩
abbrev main_call6_v6 : Ref sig .tc := ⟨.hbm, 141, rfl⟩
abbrev main_call6_v7 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_cst_5 : Ref sig .tc := ⟨.hbm, 163, rfl⟩
abbrev main_v61 : Ref sig .tc := ⟨.hbm, 164, rfl⟩
abbrev main_v62 : Ref sig .tc := ⟨.hbm, 165, rfl⟩
abbrev main_cst_6 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_cst_7 : Ref sig .tc := ⟨.hbm, 172, rfl⟩
abbrev main_v68 : Ref sig .tc := ⟨.hbm, 173, rfl⟩
abbrev main_v69 : Ref sig .tc := ⟨.hbm, 174, rfl⟩
abbrev main_cst_8 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_cst_9 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩

abbrev nD : Nat := 1
abbrev τ : Topo := Topo.v7x

variable {F : FTy → Type} [FloatOps F]
-- ==== Proof.IdealStep.lean ====
/-
  What one grid point of `proofs.«01_k».proof.KernelIdeal`'s kernel does to the four scratch arrays it carries from
  point to point, and what the last point stores, as plain functions of the point's input blocks.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Cert.KernelIdeal Cert.KernelIdeal.Gen

variable {F : FTy → Type} [FloatOps F]

/-- A load of a window of whole contents reads that window of what the view reads. -/
theorem readAt_win {κ : Kind} {sp : Space} {s : Shape} {e : EltTy} (v : View sig κ sp s e) (f : v.ty.Contents (Elt F)) {off size : Fin s.rank → ℕ} (inb : ∀ a, off a + size a ≤ s.size a) :
    v.readAt (Elt F) (Rect.unit off size inb).toLoadRect f = VecWindow.window (v.read (Elt F) f) off size inb := rfl

/-- A store into a window replaces that window of what the view reads. -/
theorem read_put {κ : Kind} {sp : Space} {s : Shape} {e : EltTy} (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A load of the view's own sizes over the stored pieces alone reads what the pieces leave. -/
theorem readCov_all {κ : Kind} {sp : Space} {s : Shape} {e : EltTy} (v : View sig κ sp s e) (L : List (View.Piece (Elt F) s e)) {off : Fin s.rank → ℕ}
    (inb : ∀ a, off a + s.size a ≤ s.size a) :
    v.readCov L (Rect.unit off s.size inb).toLoadRect = v.read (Elt F) (v.writes (Elt F) v.junk L) := View.readAt_full v _ inb

/-- The four scratch arrays: the per-graph part of the logit, the running maximum, the running sums of weights and the
running weighted sums of node features. -/
structure St (F : FTy → Type) [FloatOps F] where
  s : Vec F S512x1 .f32
  m : Vec F S1x1 .f32
  d : Vec F S512x1 .f32
  v : Vec F S512x128 .f32

/-- The smallest segment id of a block. -/
def loW (ids : Vec F S1x1x5000 .i32) : BitVec 32 := extractAt ![0, 0, 0] (k0_pay33 (F := F) ids) inpos_S1x1x1_p0_0_0
/-- The largest segment id of a block. -/
def hiW (ids : Vec F S1x1x5000 .i32) : BitVec 32 := extractAt ![0, 0, 0] (k0_pay34 (F := F) ids) inpos_S1x1x1_p0_0_0

/-- The first row of the 64-row window, as the kernel computes it from the smallest id. -/
def lo8W (lo : BitVec 32) : BitVec 32 :=
  Scalar.minsi (Scalar.muli (Scalar.select (Scalar.andi (Scalar.cmpi .ne (Scalar.subi (Scalar.extui (Scalar.cmpi .sgt lo 0#32)) (Scalar.extui (Scalar.cmpi .slt lo 0#32)))
    (Scalar.subi (Scalar.extui (Scalar.cmpi .sgt 8#32 0#32)) (Scalar.extui (Scalar.cmpi .slt 8#32 0#32)))) (Scalar.cmpi .ne (Scalar.remsi lo 8#32) 0#32))
    (Scalar.subi (Scalar.divsi lo 8#32) 1#32) (Scalar.divsi lo 8#32)) 8#32) 448#32

/-- Whether every id of the block lies in the 64-row window, as the kernel decides it. -/
def narW (lo hi : BitVec 32) : BitVec 1 := Scalar.cmpi .slt (Scalar.subi hi (lo8W lo)) 64#32

/-- The condition on which the kernel takes the windowed branch. -/
theorem cond2_iff (lo hi : BitVec 32) : k0_cond2 lo hi = 1#1 ↔ narW lo hi = 1#1 := by
  have h : k0_cond2 lo hi = Scalar.cmpi .ne ((Scalar.extui (narW lo hi)) : BitVec 32) 0#32 := rfl
  rw [h]
  generalize narW lo hi = b
  revert b; decide

/-- The condition on which it takes the other branch. -/
theorem full_iff (lo hi : BitVec 32) :
    Scalar.cmpi .ne ((Scalar.extui (Scalar.xori (narW lo hi) 1#1)) : BitVec 32) 0#32 = 1#1 ↔ ¬ k0_cond2 lo hi = 1#1 := by
  rw [cond2_iff]
  generalize narW lo hi = b
  revert b; decide

/-- Row 0 of the 2-row logit weight. -/
def wl0 (wl : Vec F S2x128 .f32) : Vec F S1x128 .f32 := VecWindow.window wl ![0, 0] S1x128.size inb_S2x128_S1x128_0_0
/-- Row 1 of the 2-row logit weight. -/
def wl1 (wl : Vec F S2x128 .f32) : Vec F S1x128 .f32 := VecWindow.window wl ![1, 0] S1x128.size inb_S2x128_S1x128_1_0

/-- The scratch arrays as the first point fills them. -/
def initSt (g : Vec F S512x128 .f32) (wl : Vec F S2x128 .f32) : St F :=
  ⟨k0_pay28 g (wl0 wl), k0_pay29, k0_pay30, k0_pay31⟩

/-- One block's update through the 64-row window. -/
def narrowSt (nf : Vec F S5000x128 .f32) (ids : Vec F S1x1x5000 .i32) (wl : Vec F S2x128 .f32) (bl : Vec F S1x1 .f32)
    (hchk : k0_chk1 (loW ids) (hiW ids)) (h2 : k0_cond2 (loW ids) (hiW ids) = 1#1) (st : St F) : St F where
  s := st.s
  m := k0_pay15 (k0_pay32 ids) (lo8W (loW ids)) (k0_pay1 nf (wl1 wl)) (VecWindow.window st.s (k0_off1 (loW ids)) S64x1.size (k0_off1_inb _ _ hchk h2)) bl st.m
  d := VecWindow.put (k0_pay2 (k0_pay14 (k0_pay32 ids) (lo8W (loW ids)) (k0_pay1 nf (wl1 wl)) (VecWindow.window st.s (k0_off1 (loW ids)) S64x1.size (k0_off1_inb _ _ hchk h2)) bl st.m) st.d)
    (k0_off1 (loW ids)) S64x1.size
    (k0_pay4 (k0_pay17 (k0_pay32 ids) (lo8W (loW ids)) (k0_pay1 nf (wl1 wl)) (VecWindow.window st.s (k0_off1 (loW ids)) S64x1.size (k0_off1_inb _ _ hchk h2)) bl st.m)
      (VecWindow.window (k0_pay2 (k0_pay14 (k0_pay32 ids) (lo8W (loW ids)) (k0_pay1 nf (wl1 wl)) (VecWindow.window st.s (k0_off1 (loW ids)) S64x1.size (k0_off1_inb _ _ hchk h2)) bl st.m) st.d)
        (k0_off1 (loW ids)) S64x1.size (k0_off1_inb _ _ hchk h2)))
  v := VecWindow.put (k0_pay3 (k0_pay14 (k0_pay32 ids) (lo8W (loW ids)) (k0_pay1 nf (wl1 wl)) (VecWindow.window st.s (k0_off1 (loW ids)) S64x1.size (k0_off1_inb _ _ hchk h2)) bl st.m) st.v)
    (k0_off2 (loW ids)) S64x128.size
    (k0_pay5 nf (k0_pay16 (k0_pay32 ids) (lo8W (loW ids)) (k0_pay1 nf (wl1 wl)) (VecWindow.window st.s (k0_off1 (loW ids)) S64x1.size (k0_off1_inb _ _ hchk h2)) bl st.m)
      (constant S64x128 .f32 0x00000000#32)
      (VecWindow.window (k0_pay3 (k0_pay14 (k0_pay32 ids) (lo8W (loW ids)) (k0_pay1 nf (wl1 wl)) (VecWindow.window st.s (k0_off1 (loW ids)) S64x1.size (k0_off1_inb _ _ hchk h2)) bl st.m) st.v)
        (k0_off2 (loW ids)) S64x128.size (k0_off2_inb _ _ hchk h2)))

/-- One block's update over all 512 rows. -/
def fullSt (nf : Vec F S5000x128 .f32) (ids : Vec F S1x1x5000 .i32) (wl : Vec F S2x128 .f32) (bl : Vec F S1x1 .f32)
    (st : St F) : St F where
  s := st.s
  m := k0_pay22 (k0_pay32 ids) (k0_pay1 nf (wl1 wl)) st.s bl st.m
  d := k0_pay8 (k0_pay24 (k0_pay32 ids) (k0_pay1 nf (wl1 wl)) st.s bl st.m)
    (k0_pay6 (k0_pay21 (k0_pay32 ids) (k0_pay1 nf (wl1 wl)) st.s bl st.m) st.d)
  v := k0_pay9 (k0_pay25 nf (k0_pay32 ids) (k0_pay1 nf (wl1 wl)) st.s bl st.m)
    (k0_pay7 (k0_pay21 (k0_pay32 ids) (k0_pay1 nf (wl1 wl)) st.s bl st.m) st.v)

/-- One block's update, in the branch the kernel takes. -/
def accSt (nf : Vec F S5000x128 .f32) (ids : Vec F S1x1x5000 .i32) (wl : Vec F S2x128 .f32) (bl : Vec F S1x1 .f32)
    (hchk : k0_chk1 (loW ids) (hiW ids)) (st : St F) : St F :=
  if h2 : k0_cond2 (loW ids) (hiW ids) = 1#1 then narrowSt nf ids wl bl hchk h2 st else fullSt nf ids wl bl st

/-- Whether the grid point is the first, as the kernel decides it. -/
abbrev firstC (i : grid0.Coords) : Prop := Scalar.cmpi .ne ((Scalar.extui (Scalar.cmpi .eq (BitVec.ofNat 32 (i 0).val) 0#32)) : BitVec 32) 0#32 = 1#1

/-- The scratch arrays as the block's update finds them: filled anew at the first point. -/
def startSt (i : grid0.Coords) (g : Vec F S512x128 .f32) (wl : Vec F S2x128 .f32) (st : St F) : St F :=
  if firstC i then initSt g wl else st

/-- What the last point stores: the gated update of the graph features, from the scratch sums. -/
def finishOut (g : Vec F S512x128 .f32) (wp : Vec F S128x128 .f32) (bp : Vec F S1x128 .f32) (wih whh : Vec F S384x128 .f32)
    (bih bhh : Vec F S1x384 .f32) (st : St F) : Vec F S512x128 .f32 :=
  k0_pay10 g (k0_pay26 st.d st.v wp bp wih bih) (k0_pay27 g whh) bhh

/-- The result block after a point: stored at the last point, as it was elsewhere. -/
def outVal (i : grid0.Coords) (g : Vec F S512x128 .f32) (wp : Vec F S128x128 .f32) (bp : Vec F S1x128 .f32) (wih whh : Vec F S384x128 .f32)
    (bih bhh : Vec F S1x384 .f32) (st : St F) (xo : Vec F S512x128 .f32) : Vec F S512x128 .f32 :=
  if k0_cond4 i = 1#1 then finishOut g wp bp wih whh bih bhh st else xo

end Cert.KernelIdeal.Hand

end
-- ==== Proof.IdealBodyNarrow.lean ====
/-
  One grid point of `proofs.«01_k».proof.KernelIdeal`'s kernel run from whole staging buffers: the inputs come back as they were, the scratch
  arrays and the result block hold what `IdealStep` names.
-/
module

public import proofs.«01_k».proof.Proof.IdealStep
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at one grid point, in the branch that works through the 64-row window. -/
theorem body_narrow (c : Dev nD) (i : grid0.Coords)
    (arg1 : Memref sig .tc .vmem S5000x128 .f32) (harg1 : arg1.IsWhole)
    (arg2 : Memref sig .tc .vmem S1x1x5000 .i32) (harg2 : arg2.IsWhole)
    (arg3 : Memref sig .tc .vmem S512x128 .f32) (harg3 : arg3.IsWhole)
    (arg4 : Memref sig .tc .vmem S2x128 .f32) (harg4 : arg4.IsWhole)
    (arg5 : Memref sig .tc .vmem S1x1 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S384x128 .f32) (harg8 : arg8.IsWhole)
    (arg9 : Memref sig .tc .vmem S384x128 .f32) (harg9 : arg9.IsWhole)
    (arg10 : Memref sig .tc .vmem S1x384 .f32) (harg10 : arg10.IsWhole)
    (arg11 : Memref sig .tc .vmem S1x384 .f32) (harg11 : arg11.IsWhole)
    (arg12 : Memref sig .tc .vmem S512x128 .f32) (harg12 : arg12.IsWhole)
    (arg13 : Memref sig .tc .vmem S512x1 .f32) (harg13 : arg13.IsWhole)
    (arg14 : Memref sig .tc .vmem S1x1 .f32) (harg14 : arg14.IsWhole)
    (arg15 : Memref sig .tc .vmem S512x1 .f32) (harg15 : arg15.IsWhole)
    (arg16 : Memref sig .tc .vmem S512x128 .f32) (harg16 : arg16.IsWhole)
    (x0 : Vec F S5000x128 .f32) (x1 : Vec F S1x1x5000 .i32) (x2 : Vec F S512x128 .f32) (x3 : Vec F S2x128 .f32) (x4 : Vec F S1x1 .f32)
    (x5 : Vec F S128x128 .f32) (x6 : Vec F S1x128 .f32) (x7 x8 : Vec F S384x128 .f32) (x9 x10 : Vec F S1x384 .f32) (xo : Vec F S512x128 .f32)
    (s : Vec F S512x1 .f32) (m : Vec F S1x1 .f32) (d : Vec F S512x1 .f32) (v : Vec F S512x128 .f32)
    (hchk : k0_chk1 (loW x1) (hiW x1))
    (hc : k0_cond2 (loW x1) (hiW x1) = 1#1) (h14 : ¬ (firstC i ∧ k0_cond4 i = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare s ∗ owns (c : Thread nD τ) arg14 fullShare m ∗ owns (c : Thread nD τ) arg15 fullShare d ∗ owns (c : Thread nD τ) arg16 fullShare v
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outVal i x2 x5 x6 x7 x8 x9 x10 (accSt x0 x1 x3 x4 hchk (startSt i x2 x3 ⟨s, m, d, v⟩)) xo) ∗ owns (c : Thread nD τ) arg13 fullShare (accSt x0 x1 x3 x4 hchk (startSt i x2 x3 ⟨s, m, d, v⟩)).s ∗ owns (c : Thread nD τ) arg14 fullShare (accSt x0 x1 x3 x4 hchk (startSt i x2 x3 ⟨s, m, d, v⟩)).m ∗ owns (c : Thread nD τ) arg15 fullShare (accSt x0 x1 x3 x4 hchk (startSt i x2 x3 ⟨s, m, d, v⟩)).d ∗ owns (c : Thread nD τ) arg16 fullShare (accSt x0 x1 x3 x4 hchk (startSt i x2 x3 ⟨s, m, d, v⟩)).v) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hx : (arg2.view.readAt (Elt F) (Rect.unit (s := S1x1x5000) ![0, 0, 0] S1x1x5000.size inb_S1x1x5000_S1x1x5000_0_0_0).toLoadRect (harg2.unread x1)) = x1 := (View.readAt_full _ _ _).trans (harg2.read_unread x1)
  have hk : k0_chk1 (extractAt ![0, 0, 0] (k0_pay33 (F := F) (arg2.view.readAt (Elt F) (Rect.unit (s := S1x1x5000) ![0, 0, 0] S1x1x5000.size inb_S1x1x5000_S1x1x5000_0_0_0).toLoadRect (harg2.unread x1))) inpos_S1x1x1_p0_0_0) (extractAt ![0, 0, 0] (k0_pay34 (F := F) (arg2.view.readAt (Elt F) (Rect.unit (s := S1x1x5000) ![0, 0, 0] S1x1x5000.size inb_S1x1x5000_S1x1x5000_0_0_0).toLoadRect (harg2.unread x1))) inpos_S1x1x1_p0_0_0) := by rw [hx]; exact hchk
  have h2 : k0_cond2 (extractAt ![0, 0, 0] (k0_pay33 (F := F) (arg2.view.readAt (Elt F) (Rect.unit (s := S1x1x5000) ![0, 0, 0] S1x1x5000.size inb_S1x1x5000_S1x1x5000_0_0_0).toLoadRect (harg2.unread x1))) inpos_S1x1x1_p0_0_0) (extractAt ![0, 0, 0] (k0_pay34 (F := F) (arg2.view.readAt (Elt F) (Rect.unit (s := S1x1x5000) ![0, 0, 0] S1x1x5000.size inb_S1x1x5000_S1x1x5000_0_0_0).toLoadRect (harg2.unread x1))) inpos_S1x1x1_p0_0_0) = 1#1 := by rw [hx]; exact hc
  have h3 := fun h => (full_iff _ _).1 h hc
  have ea : ∀ st : St F, accSt x0 x1 x3 x4 hchk st = narrowSt x0 x1 x3 x4 hchk hc st := fun st => dif_pos hc
  have c1 : (firstC i ∧ startSt i x2 x3 ⟨s, m, d, v⟩ = initSt x2 x3) ∨ (¬ firstC i ∧ startSt i x2 x3 ⟨s, m, d, v⟩ = ⟨s, m, d, v⟩) := by
    by_cases h : firstC i
    · exact .inl ⟨h, if_pos h⟩
    · exact .inr ⟨h, if_neg h⟩
  have c4 : (k0_cond4 i = 1#1 ∧ ∀ st : St F, outVal i x2 x5 x6 x7 x8 x9 x10 st xo = finishOut x2 x5 x6 x7 x8 x9 x10 st)
      ∨ (¬ k0_cond4 i = 1#1 ∧ ∀ st : St F, outVal i x2 x5 x6 x7 x8 x9 x10 st xo = xo) := by
    by_cases h : k0_cond4 i = 1#1
    · exact .inl ⟨h, fun _ => if_pos h⟩
    · exact .inr ⟨h, fun _ => if_neg h⟩
  rcases c1 with ⟨h1, e1⟩ | ⟨h1, e1⟩ <;> rcases c4 with ⟨h4, e4⟩ | ⟨h4, e4⟩
  · exact absurd ⟨h1, h4⟩ h14
  all_goals
    rw [e4, ea, e1]
    simp only [cc0__body_eq_skeleton]; unfold cc0__body_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hk | sl_exact h1 | sl_exact h2 | (guard_target =~ ¬ Scalar.cmpi .ne (Scalar.extui (Scalar.xori _ 1#1) : BitVec 32) 0#32 = 1#1; exact h3) | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; rotate_left; · iexact H11
      ipureintro
      sl_unfold_run_names
      simp only [finishOut, narrowSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H12]
    · iexists _; isplitr; rotate_left; · iexact H12
      ipureintro
      sl_unfold_run_names
      simp only [finishOut, narrowSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H13]
    · iexists _; isplitr; rotate_left; · iexact H13
      ipureintro
      sl_unfold_run_names
      simp only [finishOut, narrowSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H14]
    · iexists _; isplitr; rotate_left; · iexact H14
      ipureintro
      sl_unfold_run_names
      simp only [finishOut, narrowSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    iexists _; isplitr; rotate_left; · iexact H15
    ipureintro
    sl_unfold_run_names
    simp only [finishOut, narrowSt, initSt]
    try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
    first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)

end Cert.KernelIdeal.Hand

end
-- ==== Proof.IdealBodyFull.lean ====
/-
  One grid point of `proofs.«01_k».proof.KernelIdeal`'s kernel run from whole staging buffers: the inputs come back as they were, the scratch
  arrays and the result block hold what `IdealStep` names.
-/
module

public import proofs.«01_k».proof.Proof.IdealStep
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at one grid point, in the branch that works on all 512 rows. -/
theorem body_full (c : Dev nD) (i : grid0.Coords)
    (arg1 : Memref sig .tc .vmem S5000x128 .f32) (harg1 : arg1.IsWhole)
    (arg2 : Memref sig .tc .vmem S1x1x5000 .i32) (harg2 : arg2.IsWhole)
    (arg3 : Memref sig .tc .vmem S512x128 .f32) (harg3 : arg3.IsWhole)
    (arg4 : Memref sig .tc .vmem S2x128 .f32) (harg4 : arg4.IsWhole)
    (arg5 : Memref sig .tc .vmem S1x1 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S384x128 .f32) (harg8 : arg8.IsWhole)
    (arg9 : Memref sig .tc .vmem S384x128 .f32) (harg9 : arg9.IsWhole)
    (arg10 : Memref sig .tc .vmem S1x384 .f32) (harg10 : arg10.IsWhole)
    (arg11 : Memref sig .tc .vmem S1x384 .f32) (harg11 : arg11.IsWhole)
    (arg12 : Memref sig .tc .vmem S512x128 .f32) (harg12 : arg12.IsWhole)
    (arg13 : Memref sig .tc .vmem S512x1 .f32) (harg13 : arg13.IsWhole)
    (arg14 : Memref sig .tc .vmem S1x1 .f32) (harg14 : arg14.IsWhole)
    (arg15 : Memref sig .tc .vmem S512x1 .f32) (harg15 : arg15.IsWhole)
    (arg16 : Memref sig .tc .vmem S512x128 .f32) (harg16 : arg16.IsWhole)
    (x0 : Vec F S5000x128 .f32) (x1 : Vec F S1x1x5000 .i32) (x2 : Vec F S512x128 .f32) (x3 : Vec F S2x128 .f32) (x4 : Vec F S1x1 .f32)
    (x5 : Vec F S128x128 .f32) (x6 : Vec F S1x128 .f32) (x7 x8 : Vec F S384x128 .f32) (x9 x10 : Vec F S1x384 .f32) (xo : Vec F S512x128 .f32)
    (s : Vec F S512x1 .f32) (m : Vec F S1x1 .f32) (d : Vec F S512x1 .f32) (v : Vec F S512x128 .f32)
    (hchk : k0_chk1 (loW x1) (hiW x1))
    (hc : ¬ k0_cond2 (loW x1) (hiW x1) = 1#1) (h14 : ¬ (firstC i ∧ k0_cond4 i = 1#1)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo ∗ owns (c : Thread nD τ) arg13 fullShare s ∗ owns (c : Thread nD τ) arg14 fullShare m ∗ owns (c : Thread nD τ) arg15 fullShare d ∗ owns (c : Thread nD τ) arg16 fullShare v
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outVal i x2 x5 x6 x7 x8 x9 x10 (accSt x0 x1 x3 x4 hchk (startSt i x2 x3 ⟨s, m, d, v⟩)) xo) ∗ owns (c : Thread nD τ) arg13 fullShare (accSt x0 x1 x3 x4 hchk (startSt i x2 x3 ⟨s, m, d, v⟩)).s ∗ owns (c : Thread nD τ) arg14 fullShare (accSt x0 x1 x3 x4 hchk (startSt i x2 x3 ⟨s, m, d, v⟩)).m ∗ owns (c : Thread nD τ) arg15 fullShare (accSt x0 x1 x3 x4 hchk (startSt i x2 x3 ⟨s, m, d, v⟩)).d ∗ owns (c : Thread nD τ) arg16 fullShare (accSt x0 x1 x3 x4 hchk (startSt i x2 x3 ⟨s, m, d, v⟩)).v) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hx : (arg2.view.readAt (Elt F) (Rect.unit (s := S1x1x5000) ![0, 0, 0] S1x1x5000.size inb_S1x1x5000_S1x1x5000_0_0_0).toLoadRect (harg2.unread x1)) = x1 := (View.readAt_full _ _ _).trans (harg2.read_unread x1)
  have hk : k0_chk1 (extractAt ![0, 0, 0] (k0_pay33 (F := F) (arg2.view.readAt (Elt F) (Rect.unit (s := S1x1x5000) ![0, 0, 0] S1x1x5000.size inb_S1x1x5000_S1x1x5000_0_0_0).toLoadRect (harg2.unread x1))) inpos_S1x1x1_p0_0_0) (extractAt ![0, 0, 0] (k0_pay34 (F := F) (arg2.view.readAt (Elt F) (Rect.unit (s := S1x1x5000) ![0, 0, 0] S1x1x5000.size inb_S1x1x5000_S1x1x5000_0_0_0).toLoadRect (harg2.unread x1))) inpos_S1x1x1_p0_0_0) := by rw [hx]; exact hchk
  have h2 : ¬ k0_cond2 (extractAt ![0, 0, 0] (k0_pay33 (F := F) (arg2.view.readAt (Elt F) (Rect.unit (s := S1x1x5000) ![0, 0, 0] S1x1x5000.size inb_S1x1x5000_S1x1x5000_0_0_0).toLoadRect (harg2.unread x1))) inpos_S1x1x1_p0_0_0) (extractAt ![0, 0, 0] (k0_pay34 (F := F) (arg2.view.readAt (Elt F) (Rect.unit (s := S1x1x5000) ![0, 0, 0] S1x1x5000.size inb_S1x1x5000_S1x1x5000_0_0_0).toLoadRect (harg2.unread x1))) inpos_S1x1x1_p0_0_0) = 1#1 := by rw [hx]; exact hc
  have h3 := (full_iff _ _).2 hc
  have ea : ∀ st : St F, accSt x0 x1 x3 x4 hchk st = fullSt x0 x1 x3 x4 st := fun st => dif_neg hc
  have c1 : (firstC i ∧ startSt i x2 x3 ⟨s, m, d, v⟩ = initSt x2 x3) ∨ (¬ firstC i ∧ startSt i x2 x3 ⟨s, m, d, v⟩ = ⟨s, m, d, v⟩) := by
    by_cases h : firstC i
    · exact .inl ⟨h, if_pos h⟩
    · exact .inr ⟨h, if_neg h⟩
  have c4 : (k0_cond4 i = 1#1 ∧ ∀ st : St F, outVal i x2 x5 x6 x7 x8 x9 x10 st xo = finishOut x2 x5 x6 x7 x8 x9 x10 st)
      ∨ (¬ k0_cond4 i = 1#1 ∧ ∀ st : St F, outVal i x2 x5 x6 x7 x8 x9 x10 st xo = xo) := by
    by_cases h : k0_cond4 i = 1#1
    · exact .inl ⟨h, fun _ => if_pos h⟩
    · exact .inr ⟨h, fun _ => if_neg h⟩
  rcases c1 with ⟨h1, e1⟩ | ⟨h1, e1⟩ <;> rcases c4 with ⟨h4, e4⟩ | ⟨h4, e4⟩
  · exact absurd ⟨h1, h4⟩ h14
  all_goals
    rw [e4, ea, e1]
    simp only [cc0__body_eq_skeleton]; unfold cc0__body_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hk | sl_exact h1 | sl_exact h2 | (guard_target =~ Scalar.cmpi .ne (Scalar.extui (Scalar.xori _ 1#1) : BitVec 32) 0#32 = 1#1; exact h3) | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; rotate_left; · iexact H11
      ipureintro
      sl_unfold_run_names
      simp only [finishOut, fullSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H12]
    · iexists _; isplitr; rotate_left; · iexact H12
      ipureintro
      sl_unfold_run_names
      simp only [finishOut, fullSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H13]
    · iexists _; isplitr; rotate_left; · iexact H13
      ipureintro
      sl_unfold_run_names
      simp only [finishOut, fullSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    isplitl [H14]
    · iexists _; isplitr; rotate_left; · iexact H14
      ipureintro
      sl_unfold_run_names
      simp only [finishOut, fullSt, initSt]
      try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
      first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)
    iexists _; isplitr; rotate_left; · iexact H15
    ipureintro
    sl_unfold_run_names
    simp only [finishOut, fullSt, initSt]
    try simp only [View.read_writes_full (s := S512x1), View.read_writes_full (s := S1x1), View.read_writes_full (s := S512x128), View.readCov_full (s := S512x1), View.readCov_full (s := S1x1), View.readCov_full (s := S512x128), View.readAt_writes_full (s := S512x1), View.readAt_writes_full (s := S1x1), View.readAt_writes_full (s := S512x128), View.readAt_full (s := S5000x128), View.readAt_full (s := S1x1x5000), View.readAt_full (s := S512x128), View.readAt_full (s := S1x1), View.readAt_full (s := S512x1), View.readAt_full (s := S128x128), View.readAt_full (s := S1x128), View.readAt_full (s := S384x128), View.readAt_full (s := S1x384), hf0, hf1, hf2, hf3, hf4, hf5, hf6, hf7, hf8, hf9, hf10, hf11, hf12, hf13, hf14, hf15]
    first | done | (try simp only [readAt_win, read_put, readCov_all (s := S512x1), readCov_all (s := S512x128), View.read_writes_full (s := S512x1), View.read_writes_full (s := S1x1), View.read_writes_full (s := S512x128), hf0, hf1, hf2, hf3, hf4, hf5, hf6, hf7, hf8, hf9, hf10, hf11, hf12, hf13, hf14, hf15]; rfl)

end Cert.KernelIdeal.Hand

end
-- ==== Proof.IdealFrame.lean ====
/-
  The whole launch of `proofs.«01_k».proof.KernelIdeal`: the scratch arrays after each grid point, the proof data of the pipeline, its run to the
  end, and the frame that follows. All of it under one hypothesis, that the 64-row windows stay inside the arrays (`Inb`).
-/
module

public import proofs.«01_k».proof.Proof.IdealBodyNarrow
public import proofs.«01_k».proof.Proof.IdealBodyFull
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at one grid point, in whichever branch it takes: the inputs come back, the scratch arrays and the result block hold the step's values. -/
theorem body_run (c : Dev nD) (i : grid0.Coords) (a0 : Memref sig .tc .vmem S5000x128 .f32) (h0 : a0.IsWhole) (a1 : Memref sig .tc .vmem S1x1x5000 .i32) (h1 : a1.IsWhole) (a2 : Memref sig .tc .vmem S512x128 .f32) (h2 : a2.IsWhole) (a3 : Memref sig .tc .vmem S2x128 .f32) (h3 : a3.IsWhole) (a4 : Memref sig .tc .vmem S1x1 .f32) (h4 : a4.IsWhole) (a5 : Memref sig .tc .vmem S128x128 .f32) (h5 : a5.IsWhole) (a6 : Memref sig .tc .vmem S1x128 .f32) (h6 : a6.IsWhole) (a7 : Memref sig .tc .vmem S384x128 .f32) (h7 : a7.IsWhole) (a8 : Memref sig .tc .vmem S384x128 .f32) (h8 : a8.IsWhole) (a9 : Memref sig .tc .vmem S1x384 .f32) (h9 : a9.IsWhole) (a10 : Memref sig .tc .vmem S1x384 .f32) (h10 : a10.IsWhole) (a11 : Memref sig .tc .vmem S512x128 .f32) (h11 : a11.IsWhole) (a12 : Memref sig .tc .vmem S512x1 .f32) (h12 : a12.IsWhole) (a13 : Memref sig .tc .vmem S1x1 .f32) (h13 : a13.IsWhole) (a14 : Memref sig .tc .vmem S512x1 .f32) (h14 : a14.IsWhole) (a15 : Memref sig .tc .vmem S512x128 .f32) (h15 : a15.IsWhole)
    (x0 : Vec F S5000x128 .f32) (x1 : Vec F S1x1x5000 .i32) (x2 : Vec F S512x128 .f32) (x3 : Vec F S2x128 .f32) (x4 : Vec F S1x1 .f32)
    (x5 : Vec F S128x128 .f32) (x6 : Vec F S1x128 .f32) (x7 x8 : Vec F S384x128 .f32) (x9 x10 : Vec F S1x384 .f32) (xo : Vec F S512x128 .f32)
    (s : Vec F S512x1 .f32) (m : Vec F S1x1 .f32) (d : Vec F S512x1 .f32) (v : Vec F S512x128 .f32)
    (hchk : k0_chk1 (loW x1) (hiW x1)) (hfl : ¬ (firstC i ∧ k0_cond4 i = 1#1)) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare xo ∗ owns (c : Thread nD τ) a12 fullShare s ∗ owns (c : Thread nD τ) a13 fullShare m ∗ owns (c : Thread nD τ) a14 fullShare d ∗ owns (c : Thread nD τ) a15 fullShare v
      ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (outVal i x2 x5 x6 x7 x8 x9 x10 (accSt x0 x1 x3 x4 hchk (startSt i x2 x3 ⟨s, m, d, v⟩)) xo) ∗ owns (c : Thread nD τ) a12 fullShare (accSt x0 x1 x3 x4 hchk (startSt i x2 x3 ⟨s, m, d, v⟩)).s ∗ owns (c : Thread nD τ) a13 fullShare (accSt x0 x1 x3 x4 hchk (startSt i x2 x3 ⟨s, m, d, v⟩)).m ∗ owns (c : Thread nD τ) a14 fullShare (accSt x0 x1 x3 x4 hchk (startSt i x2 x3 ⟨s, m, d, v⟩)).d ∗ owns (c : Thread nD τ) a15 fullShare (accSt x0 x1 x3 x4 hchk (startSt i x2 x3 ⟨s, m, d, v⟩)).v) -∗ K ⟨⟩))
    ⊢ wp frame (wpE (defs₀ (F := F)) Variants.none c none) E (cc0__body i a0 h0 a1 h1 a2 h2 a3 h3 a4 h4 a5 h5 a6 h6 a7 h7 a8 h8 a9 h9 a10 h10 a11 h11 a12 h12 a13 h13 a14 h14 a15 h15) K := by
  by_cases hc : k0_cond2 (loW x1) (hiW x1) = 1#1
  · exact body_narrow c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 x10 xo s m d v hchk hc hfl E K
  · exact body_full c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 x10 xo s m d v hchk hc hfl E K

/-! ## The grid's first and last points -/

/-- The kernel's first-point condition holds at point 0 only. -/
theorem first_iff (t : Fin cfg0.N) : firstC (grid0.coords t) ↔ t.val = 0 := by
  have ht : t.val < 20 := Nat.lt_of_lt_of_eq t.isLt N_0
  have e0 : (grid0.coords t 0).val = t.val / 1 % 20 := Pipeline.Grid.coords_val t 0 (by decide) rfl
  have h : ∀ n : Fin 20, (Scalar.cmpi .ne (Scalar.extui (Scalar.cmpi .eq (BitVec.ofNat 32 (n.val / 1 % 20)) 0#32) : BitVec 32) 0#32 = 1#1) ↔ n.val = 0 := by decide
  simp only [firstC, e0]
  exact h ⟨t.val, ht⟩

/-- The kernel's last-point condition holds at point 19 only. -/
theorem last_iff (t : Fin cfg0.N) : k0_cond4 (grid0.coords t) = 1#1 ↔ t.val = 19 := by
  have ht : t.val < 20 := Nat.lt_of_lt_of_eq t.isLt N_0
  have e0 : (grid0.coords t 0).val = t.val / 1 % 20 := Pipeline.Grid.coords_val t 0 (by decide) rfl
  have h : ∀ n : Fin 20, (Scalar.cmpi .ne (Scalar.extui (Scalar.cmpi .eq (BitVec.ofNat 32 (n.val / 1 % 20)) 19#32) : BitVec 32) 0#32 = 1#1) ↔ n.val = 19 := by decide
  simp only [k0_cond4, e0]
  exact h ⟨t.val, ht⟩

/-- No point is both. -/
theorem not_both (t : Fin cfg0.N) : ¬ (firstC (grid0.coords t) ∧ k0_cond4 (grid0.coords t) = 1#1) := by
  rw [first_iff, last_iff]; omega

/-- Elsewhere than at the last point the result's window is idle. -/
theorem idle11 : ∀ t : Fin cfg0.N, ¬ k0_cond4 (grid0.coords t) = 1#1 → cfg0.idle 11 (grid0.coords t) = true := by decide +kernel
/-- Elsewhere than at the last point the result's block is not written back. -/
theorem noFlush11 : ∀ t : Fin cfg0.N, ¬ k0_cond4 (grid0.coords t) = 1#1 → (cfg0.win 11).flush t = false := by decide +kernel
/-- At the last point the result's window is live. -/
theorem live11 : ∀ t : Fin cfg0.N, k0_cond4 (grid0.coords t) = 1#1 → cfg0.idle 11 (grid0.coords t) = false := by decide +kernel

/-- Window 0's staging memref at a point. -/
abbrev ms0 (t : Fin cfg0.N) : Memref sig .tc .vmem S5000x128 .f32 := win0_0.stage (cfg0.slots t 0)
/-- Window 1's staging memref at a point. -/
abbrev ms1 (t : Fin cfg0.N) : Memref sig .tc .vmem S1x1x5000 .i32 := win0_1.stage (cfg0.slots t 1)
/-- Window 2's staging memref at a point. -/
abbrev ms2 (t : Fin cfg0.N) : Memref sig .tc .vmem S512x128 .f32 := win0_2.stage (cfg0.slots t 2)
/-- Window 3's staging memref at a point. -/
abbrev ms3 (t : Fin cfg0.N) : Memref sig .tc .vmem S2x128 .f32 := win0_3.stage (cfg0.slots t 3)
/-- Window 4's staging memref at a point. -/
abbrev ms4 (t : Fin cfg0.N) : Memref sig .tc .vmem S1x1 .f32 := win0_4.stage (cfg0.slots t 4)
/-- Window 5's staging memref at a point. -/
abbrev ms5 (t : Fin cfg0.N) : Memref sig .tc .vmem S128x128 .f32 := win0_5.stage (cfg0.slots t 5)
/-- Window 6's staging memref at a point. -/
abbrev ms6 (t : Fin cfg0.N) : Memref sig .tc .vmem S1x128 .f32 := win0_6.stage (cfg0.slots t 6)
/-- Window 7's staging memref at a point. -/
abbrev ms7 (t : Fin cfg0.N) : Memref sig .tc .vmem S384x128 .f32 := win0_7.stage (cfg0.slots t 7)
/-- Window 8's staging memref at a point. -/
abbrev ms8 (t : Fin cfg0.N) : Memref sig .tc .vmem S384x128 .f32 := win0_8.stage (cfg0.slots t 8)
/-- Window 9's staging memref at a point. -/
abbrev ms9 (t : Fin cfg0.N) : Memref sig .tc .vmem S1x384 .f32 := win0_9.stage (cfg0.slots t 9)
/-- Window 10's staging memref at a point. -/
abbrev ms10 (t : Fin cfg0.N) : Memref sig .tc .vmem S1x384 .f32 := win0_10.stage (cfg0.slots t 10)
/-- Window 11's staging memref at a point. -/
abbrev ms11 (t : Fin cfg0.N) : Memref sig .tc .vmem S512x128 .f32 := win0_11.stage (cfg0.slots t 11)
/-- Scratch array 0 as a memref. -/
abbrev sc0 : Memref sig .tc .vmem S512x1 .f32 := Memref.whole cc0_scratch0
/-- Scratch array 1 as a memref. -/
abbrev sc1 : Memref sig .tc .vmem S1x1 .f32 := Memref.whole cc0_scratch1
/-- Scratch array 2 as a memref. -/
abbrev sc2 : Memref sig .tc .vmem S512x1 .f32 := Memref.whole cc0_scratch2
/-- Scratch array 3 as a memref. -/
abbrev sc3 : Memref sig .tc .vmem S512x128 .f32 := Memref.whole cc0_scratch3

/-- What the launch hands the region: the scratch arrays at anything, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

variable (m : (ℓ : Loc nD τ sig) → Buf (Elt F) ℓ) (ρ : Dev nD → PrngReg)

/-- At every grid point the 64-row window the block's ids ask for lies inside the arrays. -/
def Inb : Prop := ∀ (c : Dev nD) (t : Fin cfg0.N), k0_chk1 (loW (F := F) (iblk m c 1 t)) (hiW (F := F) (iblk m c 1 t))

variable (H : Inb m)

/-- The scratch arrays after grid point `n`. -/
def stN (c : Dev nD) : (n : ℕ) → n < cfg0.N → St F
  | 0, h => accSt (iblk m c 0 ⟨0, h⟩) (iblk m c 1 ⟨0, h⟩) (iblk m c 3 ⟨0, h⟩) (iblk m c 4 ⟨0, h⟩) (H c ⟨0, h⟩) (initSt (iblk m c 2 ⟨0, h⟩) (iblk m c 3 ⟨0, h⟩))
  | n + 1, h => accSt (iblk m c 0 ⟨n + 1, h⟩) (iblk m c 1 ⟨n + 1, h⟩) (iblk m c 3 ⟨n + 1, h⟩) (iblk m c 4 ⟨n + 1, h⟩) (H c ⟨n + 1, h⟩) (stN c n (Nat.lt_of_succ_lt h))

/-- The first point's scratch arrays, from any before it. -/
theorem stN_first (c : Dev nD) (t : Fin cfg0.N) (h : t.val = 0) (st : St F) :
    accSt (iblk m c 0 t) (iblk m c 1 t) (iblk m c 3 t) (iblk m c 4 t) (H c t) (startSt (grid0.coords t) (iblk m c 2 t) (iblk m c 3 t) st) = stN m H c t.val t.isLt := by
  rw [show startSt (grid0.coords t) (iblk m c 2 t) (iblk m c 3 t) st = initSt (iblk m c 2 t) (iblk m c 3 t) from if_pos ((first_iff t).2 h)]
  obtain ⟨n, hn⟩ := t
  obtain rfl : n = 0 := h
  rfl

/-- A later point's scratch arrays, from those of the point before. -/
theorem stN_next (c : Dev nD) (t : Fin cfg0.N) (h : t.val ≠ 0) :
    accSt (iblk m c 0 t) (iblk m c 1 t) (iblk m c 3 t) (iblk m c 4 t) (H c t)
      (startSt (grid0.coords t) (iblk m c 2 t) (iblk m c 3 t) (stN m H c (t.val - 1) (Nat.lt_of_le_of_lt (Nat.sub_le _ _) t.isLt))) = stN m H c t.val t.isLt := by
  rw [show startSt (grid0.coords t) (iblk m c 2 t) (iblk m c 3 t) (stN m H c (t.val - 1) (Nat.lt_of_le_of_lt (Nat.sub_le _ _) t.isLt))
    = stN m H c (t.val - 1) (Nat.lt_of_le_of_lt (Nat.sub_le _ _) t.isLt) from if_neg fun e => h ((first_iff t).1 e)]
  obtain ⟨n, hn⟩ := t
  cases n with
  | zero => exact absurd rfl h
  | succ n => rfl

/-- The result block as a point's blocks and the scratch arrays after it determine it. -/
def outN (c : Dev nD) (t : Fin cfg0.N) : Vec F S512x128 .f32 :=
  finishOut (iblk m c 2 t) (iblk m c 5 t) (iblk m c 6 t) (iblk m c 7 t) (iblk m c 8 t) (iblk m c 9 t) (iblk m c 10 t) (stN m H c t.val t.isLt)

/-- The region's invariant before point `n`: at the start the scratch arrays at anything, afterwards at `stN` of the point before. -/
def PhiS (c : Dev nD) : (n : ℕ) → n ≤ cfg0.N → sProp 𝕄
  | 0, _ => Pipeline.ΦA spec0 c
  | n + 1, hn => iprop(iprop(owns (c : Thread nD τ) sc0 fullShare (stN m H c n hn).s ∗ owns (c : Thread nD τ) sc1 fullShare (stN m H c n hn).m ∗ owns (c : Thread nD τ) sc2 fullShare (stN m H c n hn).d ∗ owns (c : Thread nD τ) sc3 fullShare (stN m H c n hn).v) ∗ (∃ r, prngReg c r))

/-- At the start the invariant is the region's own. -/
theorem PhiS_zero (c : Dev nD) (n : ℕ) (h : n ≤ cfg0.N) (hz : n = 0) : PhiS m H c n h = Pipeline.ΦA spec0 c := by
  subst hz; rfl

/-- After a point the invariant holds that point's scratch arrays. -/
theorem PhiS_succ (c : Dev nD) (n : ℕ) (hn : n < cfg0.N) :
    PhiS m H c (n + 1) hn = iprop(iprop(owns (c : Thread nD τ) sc0 fullShare (stN m H c n hn).s ∗ owns (c : Thread nD τ) sc1 fullShare (stN m H c n hn).m ∗ owns (c : Thread nD τ) sc2 fullShare (stN m H c n hn).d ∗ owns (c : Thread nD τ) sc3 fullShare (stN m H c n hn).v) ∗ (∃ r, prngReg c r)) := rfl

/-- Before a point that is not the first the invariant holds the scratch arrays of the point before. -/
theorem PhiS_pos (c : Dev nD) (n : ℕ) (h : n ≤ cfg0.N) (hz : n ≠ 0) :
    PhiS m H c n h = iprop(iprop(owns (c : Thread nD τ) sc0 fullShare (stN m H c (n - 1) (by omega)).s ∗ owns (c : Thread nD τ) sc1 fullShare (stN m H c (n - 1) (by omega)).m ∗ owns (c : Thread nD τ) sc2 fullShare (stN m H c (n - 1) (by omega)).d ∗ owns (c : Thread nD τ) sc3 fullShare (stN m H c (n - 1) (by omega)).v) ∗ (∃ r, prngReg c r)) := by
  cases n with
  | zero => exact absurd rfl hz
  | succ n => rfl

/-- The pipeline's proof data on a core: the arrays as the region finds them, each input's buffer at its block, the result's at `outN`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outN m H c t
  Φ t := PhiS m H c t.val (Nat.le_of_lt_succ t.isLt)
  q _ := fullShare
  owed _ := 0

/-- Each window's array begins as the region finds it. -/
theorem A_eq (c : Dev nD) (w : Fin cfg0.W) : (dats m H 0 c).A w = V m c (Pipeline.arrRef spec0 w) := by
  dsimp only [dats]

/-- The invariant that the proof data give a point, by its number. -/
theorem PhiS_castSucc (c : Dev nD) (t : Fin cfg0.N) :
    (dats m H 0 c).Φ t.castSucc = PhiS m H c t.val (Nat.le_of_lt t.isLt) := by
  dsimp only [dats]; exact Pipeline.Dat.Φ_castSucc (PhiS m H c) t

/-- A point leaves in the buffer of the nodes' features the block it found there. -/
theorem after0 (c : Dev nD) (t : Fin cfg0.N) : (dats m H 0 c).after 0 t = iblk m c 0 t := by dsimp only [dats]
/-- A point leaves in the buffer of the ids the block it found there. -/
theorem after1 (c : Dev nD) (t : Fin cfg0.N) : (dats m H 0 c).after 1 t = iblk m c 1 t := by dsimp only [dats]
/-- A point leaves in the buffer of the segments' features the block it found there. -/
theorem after2 (c : Dev nD) (t : Fin cfg0.N) : (dats m H 0 c).after 2 t = iblk m c 2 t := by dsimp only [dats]
/-- A point leaves in the buffer of the logit weights the block it found there. -/
theorem after3 (c : Dev nD) (t : Fin cfg0.N) : (dats m H 0 c).after 3 t = iblk m c 3 t := by dsimp only [dats]
/-- A point leaves in the buffer of the logit bias the block it found there. -/
theorem after4 (c : Dev nD) (t : Fin cfg0.N) : (dats m H 0 c).after 4 t = iblk m c 4 t := by dsimp only [dats]
/-- A point leaves in the buffer of the projection weights the block it found there. -/
theorem after5 (c : Dev nD) (t : Fin cfg0.N) : (dats m H 0 c).after 5 t = iblk m c 5 t := by dsimp only [dats]
/-- A point leaves in the buffer of the projection bias the block it found there. -/
theorem after6 (c : Dev nD) (t : Fin cfg0.N) : (dats m H 0 c).after 6 t = iblk m c 6 t := by dsimp only [dats]
/-- A point leaves in the buffer of the gates' weights on the context the block it found there. -/
theorem after7 (c : Dev nD) (t : Fin cfg0.N) : (dats m H 0 c).after 7 t = iblk m c 7 t := by dsimp only [dats]
/-- A point leaves in the buffer of the gates' weights on the segments' features the block it found there. -/
theorem after8 (c : Dev nD) (t : Fin cfg0.N) : (dats m H 0 c).after 8 t = iblk m c 8 t := by dsimp only [dats]
/-- A point leaves in the buffer of the gates' bias on the context the block it found there. -/
theorem after9 (c : Dev nD) (t : Fin cfg0.N) : (dats m H 0 c).after 9 t = iblk m c 9 t := by dsimp only [dats]
/-- A point leaves in the buffer of the gates' bias on the segments' features the block it found there. -/
theorem after10 (c : Dev nD) (t : Fin cfg0.N) : (dats m H 0 c).after 10 t = iblk m c 10 t := by dsimp only [dats]
/-- A point leaves in the buffer of the result what the kernel's last step computes from the scratch arrays. -/
theorem after11 (c : Dev nD) (t : Fin cfg0.N) : (dats m H 0 c).after 11 t = outN m H c t := by dsimp only [dats]

/-- A point finds in the buffer of the nodes' features its block. -/
theorem before0 (c : Dev nD) (t : Fin cfg0.N) (d) : (dats m H 0 c).before 0 t d = iblk m c 0 t :=
  before0_0_of m (dats m H 0 c) (A_eq m H c 0) (after0 m H c) t d
/-- A point finds in the buffer of the ids its block. -/
theorem before1 (c : Dev nD) (t : Fin cfg0.N) (d) : (dats m H 0 c).before 1 t d = iblk m c 1 t :=
  before0_1_of m (dats m H 0 c) (A_eq m H c 1) (after1 m H c) t d
/-- A point finds in the buffer of the segments' features its block. -/
theorem before2 (c : Dev nD) (t : Fin cfg0.N) (d) : (dats m H 0 c).before 2 t d = iblk m c 2 t :=
  before0_2_of m (dats m H 0 c) (A_eq m H c 2) (after2 m H c) t d
/-- A point finds in the buffer of the logit weights its block. -/
theorem before3 (c : Dev nD) (t : Fin cfg0.N) (d) : (dats m H 0 c).before 3 t d = iblk m c 3 t :=
  before0_3_of m (dats m H 0 c) (A_eq m H c 3) (after3 m H c) t d
/-- A point finds in the buffer of the logit bias its block. -/
theorem before4 (c : Dev nD) (t : Fin cfg0.N) (d) : (dats m H 0 c).before 4 t d = iblk m c 4 t :=
  before0_4_of m (dats m H 0 c) (A_eq m H c 4) (after4 m H c) t d
/-- A point finds in the buffer of the projection weights its block. -/
theorem before5 (c : Dev nD) (t : Fin cfg0.N) (d) : (dats m H 0 c).before 5 t d = iblk m c 5 t :=
  before0_5_of m (dats m H 0 c) (A_eq m H c 5) (after5 m H c) t d
/-- A point finds in the buffer of the projection bias its block. -/
theorem before6 (c : Dev nD) (t : Fin cfg0.N) (d) : (dats m H 0 c).before 6 t d = iblk m c 6 t :=
  before0_6_of m (dats m H 0 c) (A_eq m H c 6) (after6 m H c) t d
/-- A point finds in the buffer of the gates' weights on the context its block. -/
theorem before7 (c : Dev nD) (t : Fin cfg0.N) (d) : (dats m H 0 c).before 7 t d = iblk m c 7 t :=
  before0_7_of m (dats m H 0 c) (A_eq m H c 7) (after7 m H c) t d
/-- A point finds in the buffer of the gates' weights on the segments' features its block. -/
theorem before8 (c : Dev nD) (t : Fin cfg0.N) (d) : (dats m H 0 c).before 8 t d = iblk m c 8 t :=
  before0_8_of m (dats m H 0 c) (A_eq m H c 8) (after8 m H c) t d
/-- A point finds in the buffer of the gates' bias on the context its block. -/
theorem before9 (c : Dev nD) (t : Fin cfg0.N) (d) : (dats m H 0 c).before 9 t d = iblk m c 9 t :=
  before0_9_of m (dats m H 0 c) (A_eq m H c 9) (after9 m H c) t d
/-- A point finds in the buffer of the gates' bias on the segments' features its block. -/
theorem before10 (c : Dev nD) (t : Fin cfg0.N) (d) : (dats m H 0 c).before 10 t d = iblk m c 10 t :=
  before0_10_of m (dats m H 0 c) (A_eq m H c 10) (after10 m H c) t d
/-- What the body owes for the buffer of the nodes' features is its block, unchanged. -/
theorem leaves0 (c : Dev nD) (t : Fin cfg0.N) : (dats m H 0 c).leavesExact 0 t = owns (c : Thread nD τ) (ms0 t) fullShare (iblk m c 0 t) := by
  unfold Dat.leavesExact; rw [show cfg0.idle 0 (grid0.coords t) = false from rfl, after0]
/-- What the body owes for the buffer of the ids is its block, unchanged. -/
theorem leaves1 (c : Dev nD) (t : Fin cfg0.N) : (dats m H 0 c).leavesExact 1 t = owns (c : Thread nD τ) (ms1 t) fullShare (iblk m c 1 t) := by
  unfold Dat.leavesExact; rw [show cfg0.idle 1 (grid0.coords t) = false from rfl, after1]
/-- What the body owes for the buffer of the segments' features is its block, unchanged. -/
theorem leaves2 (c : Dev nD) (t : Fin cfg0.N) : (dats m H 0 c).leavesExact 2 t = owns (c : Thread nD τ) (ms2 t) fullShare (iblk m c 2 t) := by
  unfold Dat.leavesExact; rw [show cfg0.idle 2 (grid0.coords t) = false from rfl, after2]
/-- What the body owes for the buffer of the logit weights is its block, unchanged. -/
theorem leaves3 (c : Dev nD) (t : Fin cfg0.N) : (dats m H 0 c).leavesExact 3 t = owns (c : Thread nD τ) (ms3 t) fullShare (iblk m c 3 t) := by
  unfold Dat.leavesExact; rw [show cfg0.idle 3 (grid0.coords t) = false from rfl, after3]
/-- What the body owes for the buffer of the logit bias is its block, unchanged. -/
theorem leaves4 (c : Dev nD) (t : Fin cfg0.N) : (dats m H 0 c).leavesExact 4 t = owns (c : Thread nD τ) (ms4 t) fullShare (iblk m c 4 t) := by
  unfold Dat.leavesExact; rw [show cfg0.idle 4 (grid0.coords t) = false from rfl, after4]
/-- What the body owes for the buffer of the projection weights is its block, unchanged. -/
theorem leaves5 (c : Dev nD) (t : Fin cfg0.N) : (dats m H 0 c).leavesExact 5 t = owns (c : Thread nD τ) (ms5 t) fullShare (iblk m c 5 t) := by
  unfold Dat.leavesExact; rw [show cfg0.idle 5 (grid0.coords t) = false from rfl, after5]
/-- What the body owes for the buffer of the projection bias is its block, unchanged. -/
theorem leaves6 (c : Dev nD) (t : Fin cfg0.N) : (dats m H 0 c).leavesExact 6 t = owns (c : Thread nD τ) (ms6 t) fullShare (iblk m c 6 t) := by
  unfold Dat.leavesExact; rw [show cfg0.idle 6 (grid0.coords t) = false from rfl, after6]
/-- What the body owes for the buffer of the gates' weights on the context is its block, unchanged. -/
theorem leaves7 (c : Dev nD) (t : Fin cfg0.N) : (dats m H 0 c).leavesExact 7 t = owns (c : Thread nD τ) (ms7 t) fullShare (iblk m c 7 t) := by
  unfold Dat.leavesExact; rw [show cfg0.idle 7 (grid0.coords t) = false from rfl, after7]
/-- What the body owes for the buffer of the gates' weights on the segments' features is its block, unchanged. -/
theorem leaves8 (c : Dev nD) (t : Fin cfg0.N) : (dats m H 0 c).leavesExact 8 t = owns (c : Thread nD τ) (ms8 t) fullShare (iblk m c 8 t) := by
  unfold Dat.leavesExact; rw [show cfg0.idle 8 (grid0.coords t) = false from rfl, after8]
/-- What the body owes for the buffer of the gates' bias on the context is its block, unchanged. -/
theorem leaves9 (c : Dev nD) (t : Fin cfg0.N) : (dats m H 0 c).leavesExact 9 t = owns (c : Thread nD τ) (ms9 t) fullShare (iblk m c 9 t) := by
  unfold Dat.leavesExact; rw [show cfg0.idle 9 (grid0.coords t) = false from rfl, after9]
/-- What the body owes for the buffer of the gates' bias on the segments' features is its block, unchanged. -/
theorem leaves10 (c : Dev nD) (t : Fin cfg0.N) : (dats m H 0 c).leavesExact 10 t = owns (c : Thread nD τ) (ms10 t) fullShare (iblk m c 10 t) := by
  unfold Dat.leavesExact; rw [show cfg0.idle 10 (grid0.coords t) = false from rfl, after10]

/-- What the body leaves in the result's buffer at a point is what the pipeline wants of it there. -/
theorem leaves11 (c : Dev nD) (t : Fin cfg0.N) (d11) :
    owns (c : Thread nD τ) (ms11 t) fullShare (outVal (grid0.coords t) (iblk m c 2 t) (iblk m c 5 t) (iblk m c 6 t) (iblk m c 7 t) (iblk m c 8 t) (iblk m c 9 t) (iblk m c 10 t) (stN m H c t.val t.isLt) ((dats m H 0 c).before 11 t d11))
      ⊢ (dats m H 0 c).leavesExact 11 t := by
  by_cases h : k0_cond4 (grid0.coords t) = 1#1
  · rw [show (dats m H 0 c).leavesExact 11 t = owns (c : Thread nD τ) (ms11 t) fullShare (outN m H c t) from by
      unfold Dat.leavesExact; rw [live11 t h, after11]]
    unfold outVal; rw [if_pos h]; exact Idealize.SL.BI.Entails.refl _
  · rw [Dat.leavesExact_idle (dats m H 0 c) 11 t (idle11 t h) (noFlush11 t h)]
    unfold outVal; rw [if_neg h]
    iintro H11; iexists _; iexact H11

/-- The body's precondition at a point, as the pipeline gives it. -/
def bodyPre (c : Dev nD) (t : Fin cfg0.N) : sProp 𝕄 :=
  iprop((dats m H 0 c).Φ t.castSucc ∗ (dats m H 0 c).owesAt () t.castSucc
    ∗ (∃ d, owns (c : Thread nD τ) (ms0 t) fullShare ((dats m H 0 c).before 0 t d))
    ∗ (∃ d, owns (c : Thread nD τ) (ms1 t) fullShare ((dats m H 0 c).before 1 t d))
    ∗ (∃ d, owns (c : Thread nD τ) (ms2 t) fullShare ((dats m H 0 c).before 2 t d))
    ∗ (∃ d, owns (c : Thread nD τ) (ms3 t) fullShare ((dats m H 0 c).before 3 t d))
    ∗ (∃ d, owns (c : Thread nD τ) (ms4 t) fullShare ((dats m H 0 c).before 4 t d))
    ∗ (∃ d, owns (c : Thread nD τ) (ms5 t) fullShare ((dats m H 0 c).before 5 t d))
    ∗ (∃ d, owns (c : Thread nD τ) (ms6 t) fullShare ((dats m H 0 c).before 6 t d))
    ∗ (∃ d, owns (c : Thread nD τ) (ms7 t) fullShare ((dats m H 0 c).before 7 t d))
    ∗ (∃ d, owns (c : Thread nD τ) (ms8 t) fullShare ((dats m H 0 c).before 8 t d))
    ∗ (∃ d, owns (c : Thread nD τ) (ms9 t) fullShare ((dats m H 0 c).before 9 t d))
    ∗ (∃ d, owns (c : Thread nD τ) (ms10 t) fullShare ((dats m H 0 c).before 10 t d))
    ∗ (∃ d, owns (c : Thread nD τ) (ms11 t) fullShare ((dats m H 0 c).before 11 t d)))

/-- The body's postcondition at a point, as the pipeline wants it. -/
def bodyPost (c : Dev nD) (t : Fin cfg0.N) : sProp 𝕄 :=
  iprop((dats m H 0 c).Φ t.succ ∗ (dats m H 0 c).owesAt () t.succ
    ∗ (dats m H 0 c).leavesExact 0 t
    ∗ (dats m H 0 c).leavesExact 1 t
    ∗ (dats m H 0 c).leavesExact 2 t
    ∗ (dats m H 0 c).leavesExact 3 t
    ∗ (dats m H 0 c).leavesExact 4 t
    ∗ (dats m H 0 c).leavesExact 5 t
    ∗ (dats m H 0 c).leavesExact 6 t
    ∗ (dats m H 0 c).leavesExact 7 t
    ∗ (dats m H 0 c).leavesExact 8 t
    ∗ (dats m H 0 c).leavesExact 9 t
    ∗ (dats m H 0 c).leavesExact 10 t
    ∗ (dats m H 0 c).leavesExact 11 t)

set_option maxHeartbeats 4000000 in
/-- The body at any point takes the invariant from one point to the next. -/
theorem sound_body (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before0, before1, before2, before3, before4, before5, before6, before7, before8, before9, before10]
  rw [show (dats m H 0 c).owesAt () t.succ = (dats m H 0 c).owesAt () t.castSucc from rfl]
  rw [show (dats m H 0 c).Φ t.succ = PhiS m H c (t.val + 1) t.isLt from rfl, PhiS_succ]
  rw [leaves0, leaves1, leaves2, leaves3, leaves4, leaves5, leaves6, leaves7, leaves8, leaves9, leaves10, PhiS_castSucc m H c t]
  by_cases hz : t.val = 0
  · rw [PhiS_zero m H c _ _ hz, PhiA_eq]
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e := stN_first m H c t hz ⟨s0, s1, s2, s3⟩
    iapply (body_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ s0 s1 s2 s3 (H c t) (not_both t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    rw [e]
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (leaves11 m H c t _)
    iexact H11
  · rw [PhiS_pos m H c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have e := stN_next m H c t hz
    iapply (body_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _ (stN m H c (t.val - 1) (Nat.lt_of_le_of_lt (Nat.sub_le _ _) t.isLt)).s (stN m H c (t.val - 1) (Nat.lt_of_le_of_lt (Nat.sub_le _ _) t.isLt)).m (stN m H c (t.val - 1) (Nat.lt_of_le_of_lt (Nat.sub_le _ _) t.isLt)).d (stN m H c (t.val - 1) (Nat.lt_of_le_of_lt (Nat.sub_le _ _) t.isLt)).v (H c t) (not_both t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    rw [e]
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (leaves11 m H c t _)
    iexact H11

/-- The body table's row at a point is the body as `bodyAt0` spells it. -/
theorem defs_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m H 0 c) (defs₀ (F := F)) Variants.none () Set.univ := fun t => by
  rw [bigSep_W0, bigSep_W0, defs_row]
  exact triple_restated (sound_body m H c t) rfl .rfl fun _ => .rfl

/-- The region's entry gives the invariant before the first point. -/
theorem hin (c : Dev nD) : Pipeline.ΦA spec0 c ⊢ (dats m H 0 c).Φ 0 := by
  rw [show (dats m H 0 c).Φ 0 = PhiS m H c 0 (Nat.zero_le _) from rfl, PhiS_zero m H c 0 _ rfl]
  try exact Idealize.SL.BI.Entails.refl _

/-- The invariant after the last point gives the region's exit. -/
theorem hout (c : Dev nD) : (dats m H 0 c).Φ (Fin.last cfg0.N) ⊢ Pipeline.ΦA spec0 c := by
  have hN : cfg0.N = 20 := N_0
  rw [show (dats m H 0 c).Φ (Fin.last cfg0.N) = PhiS m H c (Fin.last cfg0.N).val (Nat.le_of_lt_succ (Fin.last cfg0.N).isLt) from rfl,
    PhiS_pos m H c _ _ (by rw [Fin.val_last]; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- Every weakly fair execution terminates with every array of the pipeline at what the proof data say and every semaphore counter at zero. -/
theorem run_main_quiescent : θ_run defs (onTc (τ := τ) (main (F := F))) (s₀ m ρ) (fun r => (Pipeline.FramePost cfgs (dats m H) 0 (V m)) r ∧ r.2.sem = fun _ => 0) :=
  Pipeline.θ_run_frame_track (Q' := _) cfgs (dats m H) (0 : Fin 1) launch0 defs₀ Variants.none m ρ main
    (hbody := fun c => (body_obligation m H c).loose) (hshare := fun c => (dats m H 0 c).share_full fun _ => rfl)
    (howed := fun _ _ => rfl) (V := V m) (hmain := hmain m Variants.none) (hA := A_eq m H) (hin := hin m H) (hout := hout m H)

/-- The same without the counters. -/
theorem run_main : θ_run defs (onTc (τ := τ) (main (F := F))) (s₀ m ρ) (Pipeline.FramePost cfgs (dats m H) 0 (V m)) :=
  (θ_run defs _ _).mono (fun _ h => h.1) (run_main_quiescent m ρ H)

/-- The arguments end as they began. -/
theorem unchanged (H : Inb m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m H) (A_eq m H) (run_main m ρ H)

/-- The frame: every execution terminates, the arguments end as they began and every semaphore counter at zero. -/
theorem frame (H : Inb m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ H) ((θ_run defs _ _).mono (fun _ h => h.2) (run_main_quiescent m ρ H))

end Cert.KernelIdeal.Hand

end
-- ==== Proof.IdealIds.lean ====
/-
  The words the kernel of `proofs.«01_k».proof.KernelIdeal` computes from a block's segment ids: the smallest and the largest id, and the first
  row of the 64-row window. Ids that are not negative keep the window inside the arrays.
-/
module

public import proofs.«01_k».proof.Proof.IdealStep
public import Idealize.ShloMosaic.Lib.Routing.Words
public import Idealize.ShloMosaic.PureOps.Reduce
public import Idealize.ShloMosaic.Lib.Pointwise

@[expose] public section

set_option maxRecDepth 16384

noncomputable section

namespace Cert.KernelIdeal.Hand

open Idealize.ShloMosaic Cert.KernelIdeal Cert.KernelIdeal.Gen

variable {F : FTy → Type} [FloatOps F]

/-- The signed-less test of two small words is the test of the numbers. -/
theorem slt_ofNat {a b : ℕ} (ha : a < 2 ^ 31) (hb : b < 2 ^ 31) : (BitVec.ofNat 32 a).slt (BitVec.ofNat 32 b) = decide (a < b) := by
  have e : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  rw [BitVec.slt, e a ha, e b hb]; simp

/-- The first row of the window, of an id that is not negative. -/
theorem lo8W_ofNat {n : ℕ} (hn : n < 2 ^ 31) : lo8W (BitVec.ofNat 32 n) = BitVec.ofNat 32 (min (n / 8 * 8) 448) := by
  have hd : Scalar.divsi (BitVec.ofNat 32 n) 8#32 = BitVec.ofNat 32 (n / 8) := Routing.divsi_word .scalar hn (by norm_num) (by norm_num)
  have hm : Scalar.remsi (BitVec.ofNat 32 n) 8#32 = BitVec.ofNat 32 (n % 8) := Routing.remsi_word .scalar hn (by norm_num) (by norm_num)
  have hs : ∀ a b : BitVec 32, Scalar.select (Scalar.andi (Scalar.cmpi .ne (Scalar.subi (Scalar.extui (Scalar.cmpi .sgt (BitVec.ofNat 32 n) 0#32)) (Scalar.extui (Scalar.cmpi .slt (BitVec.ofNat 32 n) 0#32)))
    (Scalar.subi (Scalar.extui (Scalar.cmpi .sgt 8#32 0#32)) (Scalar.extui (Scalar.cmpi .slt 8#32 0#32)))) (Scalar.cmpi .ne (BitVec.ofNat 32 (n % 8)) 0#32)) a b = b := by
    intro a b
    have h1 : Scalar.cmpi .slt (BitVec.ofNat 32 n) 0#32 = 0#1 := by
      show BitVec.ofBool ((BitVec.ofNat 32 n).slt (BitVec.ofNat 32 0)) = 0#1
      rw [slt_ofNat hn (by norm_num)]; simp
    have h2 : Scalar.cmpi .sgt (BitVec.ofNat 32 n) 0#32 = BitVec.ofBool (decide (0 < n)) := by
      show BitVec.ofBool ((BitVec.ofNat 32 0).slt (BitVec.ofNat 32 n)) = _
      rw [slt_ofNat (by norm_num) hn]
    rw [h1, h2]
    by_cases h0 : n = 0
    · subst h0; unfold Scalar.select; rw [if_neg (by decide)]
    · have e : decide (0 < n) = true := by simpa using Nat.pos_of_ne_zero h0
      rw [e]
      generalize Scalar.cmpi .ne (BitVec.ofNat 32 (n % 8)) 0#32 = q
      unfold Scalar.select; rw [if_neg (by revert q; decide)]
  unfold lo8W
  rw [hm, hs, hd]
  show IntOp.minsi (BitVec.ofNat 32 (n / 8) * BitVec.ofNat 32 8) (BitVec.ofNat 32 448) = _
  have h3 : BitVec.ofNat 32 (n / 8) * BitVec.ofNat 32 8 = BitVec.ofNat 32 (n / 8 * 8) := by
    apply BitVec.eq_of_toNat_eq; simp [BitVec.toNat_mul, Nat.mul_mod]
  rw [h3]
  unfold IntOp.minsi
  rw [slt_ofNat (by omega) (by norm_num)]
  by_cases h : n / 8 * 8 < 448
  · rw [min_eq_left h.le]; simp [h]
  · rw [min_eq_right (by omega)]; simp [h]

/-- A word that is not negative is the word of a number below `2 ^ 31`. -/
theorem exists_ofNat {w : BitVec 32} (h : 0 ≤ w.toInt) : ∃ n : ℕ, n < 2 ^ 31 ∧ w = BitVec.ofNat 32 n := by
  refine ⟨w.toNat, ?_, by simp⟩
  rw [BitVec.toInt_eq_toNat_cond] at h
  have := w.isLt
  split at h <;> omega

/-- When the smallest id is not negative the windows lie inside the arrays. -/
theorem chk_of_nonneg {lo hi : BitVec 32} (h : 0 ≤ lo.toInt) : k0_chk1 lo hi := by
  obtain ⟨n, hn, rfl⟩ := exists_ofNat h
  have e1 : k0_off1 (BitVec.ofNat 32 n) = ![(lo8W (BitVec.ofNat 32 n)).toNat, 0] := rfl
  have e2 : k0_off2 (BitVec.ofNat 32 n) = ![(lo8W (BitVec.ofNat 32 n)).toNat, 0] := rfl
  have e3 : (lo8W (BitVec.ofNat 32 n)).toNat ≤ 448 := by
    rw [lo8W_ofNat hn, BitVec.toNat_ofNat, Nat.mod_eq_of_lt (by omega)]; exact min_le_right _ _
  refine ⟨fun _ => ?_, fun _ => ?_⟩
  · rw [e1]; intro a; fin_cases a
    · show (lo8W (BitVec.ofNat 32 n)).toNat + 64 ≤ 512; omega
    · show 0 + _ ≤ _; decide
  · rw [e2]; intro a; fin_cases a
    · show (lo8W (BitVec.ofNat 32 n)).toNat + 64 ≤ 512; omega
    · show 0 + _ ≤ _; decide

/-! ## The smallest and the largest id -/

/-- A fold of the signed minimum: a lower bound of the start and of every entry bounds it. -/
theorem le_fold_minsi {ι : Type} (s : Finset ι) (f : ι → BitVec 32) (b : BitVec 32) (k : ℤ) (hb : k ≤ b.toInt) (hf : ∀ i ∈ s, k ≤ (f i).toInt) :
    k ≤ (s.fold IntOp.minsi b f).toInt := by
  classical
  induction s using Finset.induction_on with
  | empty => simpa using hb
  | insert a s ha ih =>
    rw [Finset.fold_insert ha]
    have h1 := hf a (Finset.mem_insert_self _ _)
    have h2 := ih fun i hi => hf i (Finset.mem_insert_of_mem hi)
    unfold IntOp.minsi; split <;> assumption

/-- A fold of the signed minimum is at most every entry. -/
theorem fold_minsi_le {ι : Type} (s : Finset ι) (f : ι → BitVec 32) (b : BitVec 32) (i : ι) (hi : i ∈ s) : (s.fold IntOp.minsi b f).toInt ≤ (f i).toInt := by
  classical
  rw [← Finset.insert_erase hi, Finset.fold_insert (Finset.notMem_erase _ _)]
  generalize (s.erase i).fold IntOp.minsi b f = r
  unfold IntOp.minsi
  split
  · exact le_refl _
  · rename_i h; simp only [BitVec.slt, decide_eq_true_eq] at h; omega

/-- A fold of the signed maximum is at least every entry. -/
theorem le_fold_maxsi {ι : Type} (s : Finset ι) (f : ι → BitVec 32) (b : BitVec 32) (i : ι) (hi : i ∈ s) : (f i).toInt ≤ (s.fold IntOp.maxsi b f).toInt := by
  classical
  rw [← Finset.insert_erase hi, Finset.fold_insert (Finset.notMem_erase _ _)]
  generalize (s.erase i).fold IntOp.maxsi b f = r
  unfold IntOp.maxsi
  split
  · exact le_refl _
  · rename_i h; simp only [BitVec.slt, decide_eq_true_eq] at h; omega

/-- A result index of the one-entry reduction is any other. -/
theorem S1_all (i j : S1.Idx) : i = j := by
  funext b; apply Fin.ext
  have h1 := (i b).isLt; have h2 := (j b).isLt
  have h : S1.size b = 1 := by fin_cases b; rfl
  omega

/-- The places of a block in the order the reductions read them. -/
def redE : S1x1x5000.Idx ≃ S1x1x5000.Idx :=
  (Shape.reshapeEquiv shapeCasts_S1x5000_S1x1x5000).trans (Shape.reshapeEquiv shapeCasts_S1x1x5000_S1x5000)

/-- The block's smallest id, as a fold over the places of the block. -/
theorem loW_eq (ids : Vec F S1x1x5000 .i32) : loW (F := F) ids = Finset.univ.fold IntOp.minsi 2147483647#32 fun i => ids (redE i) := by
  unfold loW k0_pay33 k0_pay32 extractAt shapeCast
  refine (multiReductionI_eq_fold .minsi _ 2147483647#32 reduces_S1x1x5000_S1 rfl _).trans ?_
  rw [Finset.filter_true_of_mem fun i _ => S1_all _ _]; rfl

/-- The block's largest id, as a fold over the places of the block. -/
theorem hiW_eq (ids : Vec F S1x1x5000 .i32) : hiW (F := F) ids = Finset.univ.fold IntOp.maxsi 2147483648#32 fun i => ids (redE i) := by
  unfold hiW k0_pay34 k0_pay32 extractAt shapeCast
  refine (multiReductionI_eq_fold .maxsi _ 2147483648#32 reduces_S1x1x5000_S1 rfl _).trans ?_
  rw [Finset.filter_true_of_mem fun i _ => S1_all _ _]; rfl

/-- The block's smallest id is not negative when no id is. -/
theorem loW_nonneg {ids : Vec F S1x1x5000 .i32} (h : ∀ y, 0 ≤ (ids y : BitVec 32).toInt) : 0 ≤ (loW (F := F) ids).toInt := by
  rw [loW_eq]; exact le_fold_minsi _ _ _ _ (by decide) fun i _ => h _

/-- Every id of the block is at least the smallest. -/
theorem loW_le (ids : Vec F S1x1x5000 .i32) (y : S1x1x5000.Idx) : (loW (F := F) ids).toInt ≤ (ids y : BitVec 32).toInt := by
  rw [loW_eq]
  have := fold_minsi_le Finset.univ (fun i => (ids (redE i) : BitVec 32)) 2147483647#32 (redE.symm y) (Finset.mem_univ _)
  rwa [Equiv.apply_symm_apply] at this

/-- Every id of the block is at most the largest. -/
theorem le_hiW (ids : Vec F S1x1x5000 .i32) (y : S1x1x5000.Idx) : (ids y : BitVec 32).toInt ≤ (hiW (F := F) ids).toInt := by
  rw [hiW_eq]
  have := le_fold_maxsi Finset.univ (fun i => (ids (redE i) : BitVec 32)) 2147483648#32 (redE.symm y) (Finset.mem_univ _)
  rwa [Equiv.apply_symm_apply] at this

end Cert.KernelIdeal.Hand

end
-- ==== Proof.IdealBlocks.lean ====
/-
  What each window's block of the kernel of `proofs.«01_k».proof.KernelIdeal` holds, entry by entry, in terms of the arguments: the two windows
  over the nodes take the 5000 nodes of a step, the others their whole array.
-/
module

public import proofs.«01_k».proof.Proof.IdealFrame
public import proofs.«01_k».proof.Proof.IdealIds
public import Idealize.ShloMosaic.Lib.Pipeline.ValueKit

@[expose] public section

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The node that is the `k`-th of step `t`. -/
def node (t : Fin cfg0.N) (k : Fin 5000) : Fin 100000 := ⟨(t : ℕ) * 5000 + k, by have h : (t : ℕ) < 20 := t.isLt; have := k.isLt; omega⟩

/-- Where each window stands at a step. -/
theorem idxs : ∀ t : Fin cfg0.N, win0_0.index t = ![t.val, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

/-- The features of a step's node. -/
theorem iblk0_apply (c : Dev nD) (t : Fin cfg0.N) (k : Fin 5000) (f : Fin 128) :
    iblk m c 0 t (ValueIdx.ix2 k f) = m ((c : Thread nD τ).loc main_arg0) (ValueIdx.ix2 (node t k) f) := by
  unfold node
  blk_ext! [iblk, V, idxs t]

/-- The segment of a step's node. -/
theorem iblk1_apply (c : Dev nD) (t : Fin cfg0.N) (k : Fin 5000) :
    iblk m c 1 t (ValueIdx.ix3 0 0 k) = m ((c : Thread nD τ).loc main_arg2) (ValueIdx.ix1 (node t k)) := by
  unfold node
  blk_ext! [iblk, V, idxs t]

/-- The segments' features, whole. -/
theorem iblk2_eq (c : Dev nD) (t : Fin cfg0.N) : iblk m c 2 t = m ((c : Thread nD τ).loc main_arg1) := by
  blk_ext! [iblk, V, idxs t]

/-- The logit weights, as two rows of 128. -/
theorem iblk3_apply (c : Dev nD) (t : Fin cfg0.N) (r : Fin 2) (f : Fin 128) :
    iblk m c 3 t (ValueIdx.ix2 r f) = m ((c : Thread nD τ).loc main_arg3) (ValueIdx.ix2 0 ⟨(r : ℕ) * 128 + f, by omega⟩) := by
  blk_ext! [iblk, V, idxs t]

/-- The logit bias. -/
theorem iblk4_apply (c : Dev nD) (t : Fin cfg0.N) :
    iblk m c 4 t (ValueIdx.ix2 0 0) = m ((c : Thread nD τ).loc main_arg4) (ValueIdx.ix1 0) := by
  blk_ext! [iblk, V, idxs t]

/-- The projection weights, whole. -/
theorem iblk5_eq (c : Dev nD) (t : Fin cfg0.N) : iblk m c 5 t = m ((c : Thread nD τ).loc main_arg5) := by
  blk_ext! [iblk, V, idxs t]

/-- The projection bias. -/
theorem iblk6_apply (c : Dev nD) (t : Fin cfg0.N) (f : Fin 128) :
    iblk m c 6 t (ValueIdx.ix2 0 f) = m ((c : Thread nD τ).loc main_arg6) (ValueIdx.ix1 f) := by
  blk_ext! [iblk, V, idxs t]

/-- The weights of the gates on the context, whole. -/
theorem iblk7_eq (c : Dev nD) (t : Fin cfg0.N) : iblk m c 7 t = m ((c : Thread nD τ).loc main_arg7) := by
  blk_ext! [iblk, V, idxs t]

/-- The weights of the gates on the segments' features, whole. -/
theorem iblk8_eq (c : Dev nD) (t : Fin cfg0.N) : iblk m c 8 t = m ((c : Thread nD τ).loc main_arg8) := by
  blk_ext! [iblk, V, idxs t]

/-- The bias of the gates on the context. -/
theorem iblk9_apply (c : Dev nD) (t : Fin cfg0.N) (f : Fin 384) :
    iblk m c 9 t (ValueIdx.ix2 0 f) = m ((c : Thread nD τ).loc main_arg9) (ValueIdx.ix1 f) := by
  blk_ext! [iblk, V, idxs t]

/-- The bias of the gates on the segments' features. -/
theorem iblk10_apply (c : Dev nD) (t : Fin cfg0.N) (f : Fin 384) :
    iblk m c 10 t (ValueIdx.ix2 0 f) = m ((c : Thread nD τ).loc main_arg10) (ValueIdx.ix1 f) := by
  blk_ext! [iblk, V, idxs t]

/-- An index of a step's ids names one of the 5000 nodes. -/
theorem ix_ids (y : S1x1x5000.Idx) : y = ValueIdx.ix3 0 0 (y 2) := by
  funext a; match a with
  | ⟨0, _⟩ => exact Subsingleton.elim (α := Fin 1) _ _
  | ⟨1, _⟩ => exact Subsingleton.elim (α := Fin 1) _ _
  | ⟨2, _⟩ => rfl

/-- Ids that are not negative keep every window of every step inside the arrays. -/
theorem inb (h : ∀ (c : Dev nD) n, 0 ≤ (m ((c : Thread nD τ).loc main_arg2) n : BitVec 32).toInt) : Inb m := fun c t =>
  chk_of_nonneg (loW_nonneg fun y => by rw [ix_ids y]; exact (congrArg BitVec.toInt (iblk1_apply m c t (y 2))).symm ▸ h c _)

end Cert.KernelIdeal.Hand
-- ==== Proof.Ids.lean ====
/-
  What the precondition on the segment ids says of each of them.
-/
module

public import proofs.«01_k».proof.Pre_ids_nonneg
public import proofs.«01_k».proof.Proof.Gen.Pre_ids_nonneg
public import Idealize.ShloMosaic.Lib.Pointwise

@[expose] public section

noncomputable section

namespace Cert.Proof

open Idealize.ShloMosaic

variable {F : FTy → Type} [FloatOps F]

/-- A word that passes the test against zero is not negative. -/
theorem nonneg_of_sge {w : BitVec 32} (h : IntOp.cmpi .sge w 0#32 = 1#1) : 0 ≤ w.toInt := by
  by_contra hc
  have hs : (0#32).sle w = false := by simp [BitVec.sle]; omega
  have h' : BitVec.ofBool ((0#32).sle w) = 1#1 := h
  rw [hs] at h'; exact absurd h' (by decide)

/-- Where the precondition on the ids is all ones, no id is negative. -/
theorem ids_of_pre (a0 : FVec F Pre_ids_nonneg.S100000x128 .f32) (a1 : FVec F Pre_ids_nonneg.S512x128 .f32) (a2 : IVec Pre_ids_nonneg.S100000 32)
    (a3 : FVec F Pre_ids_nonneg.S1x256 .f32) (a4 : FVec F Pre_ids_nonneg.S1 .f32) (a5 : FVec F Pre_ids_nonneg.S128x128 .f32)
    (a6 : FVec F Pre_ids_nonneg.S128 .f32) (a7 a8 : FVec F Pre_ids_nonneg.S384x128 .f32) (a9 a10 : FVec F Pre_ids_nonneg.S384 .f32)
    (h : @Pre_ids_nonneg.fn Pre_ids_nonneg.Gen.facts F _ a0 a1 a2 a3 a4 a5 a6 a7 a8 a9 a10 = fun _ => 1#1) (n : Pre_ids_nonneg.S100000.Idx) :
    0 ≤ (a2 n).toInt :=
  nonneg_of_sge (congrFun h n)

end Cert.Proof

end
-- ==== Proof.IdealUpdate.lean ====
/-
  One block's update of the scratch arrays of the kernel of `proofs.«01_k».proof.KernelIdeal`, over the extended reals, as a closed form: the
  block's logits, the running maximum, and the two sums rescaled to it. Both branches of the kernel compute it.
-/
module

public import proofs.«01_k».proof.Proof.IdealStep
public import proofs.«01_k».proof.Proof.IdealIds
public import Idealize.ShloMosaic.Lib.Pointwise

@[expose] public section

set_option maxRecDepth 16384

noncomputable section

namespace Cert.KernelIdeal.Hand

open Idealize.ShloMosaic Cert.KernelIdeal Cert.KernelIdeal.Gen

/-- The leaky rectifier: the slope below zero is the f32 word nearest to 0.01. -/
def lrelu (x : EReal) : EReal := if 0 ≤ x then x else Ideal.ofBits .f32 0x3C23D70A#32 * x

variable (nf : Vec Ideal S5000x128 .f32) (ids : Vec Ideal S1x1x5000 .i32) (w1 : Vec Ideal S1x128 .f32) (bl : Vec Ideal S1x1 .f32)

/-- The logit of a node: its features by their weights, its segment's score (none if the segment is outside the 512), and the bias. -/
def zOf (s : Vec Ideal S512x1 .f32) (k : Fin 5000) : EReal :=
  lrelu ((∑ f : Fin 128, w1 (ix2 0 f) * nf (ix2 k f)) + (∑ r : Fin 512, if BitVec.ofNat 32 r.val = ids (ix3 0 0 k) then s (ix2 r 0) else 0) + bl (ix2 0 0))

/-- The running maximum after a block. -/
def mOf (st : St Ideal) : EReal :=
  max (st.m (ix2 0 0)) (Finset.fold max (Ideal.ofBits .f32 0xFF800000#32) (fun x : Fin 1 × Fin 5000 => zOf nf ids w1 bl st.s x.2) Finset.univ)

/-- A node's weight in a segment's sums, relative to the running maximum: nothing if the node is of another segment. -/
def eOf (st : St Ideal) (r : ℕ) (k : Fin 5000) : EReal :=
  if BitVec.ofNat 32 r = ids (ix3 0 0 k) then Ideal.exp (zOf nf ids w1 bl st.s k - mOf nf ids w1 bl st) else 0

/-- The scratch arrays after a block. -/
def stepSt (st : St Ideal) : St Ideal where
  s := st.s
  m := fun _ => mOf nf ids w1 bl st
  d := fun i => st.d i * Ideal.exp (st.m (ix2 0 0) - mOf nf ids w1 bl st) + ∑ k : Fin 5000, eOf nf ids w1 bl st (i 0).val k
  v := fun i => st.v i * Ideal.exp (st.m (ix2 0 0) - mOf nf ids w1 bl st) + ∑ k : Fin 5000, eOf nf ids w1 bl st (i 0).val k * nf (ix2 k (i 1))

/-- A choice by an equality of words. -/
theorem sel_eq {α : Type} (a b : BitVec 32) (x y : α) : Scalar.select (IntOp.cmpi .eq a b) x y = if a = b then x else y := by
  by_cases h : a = b
  · subst h; simp [Scalar.select, IntOp.cmpi]
  · have hb : (a == b) = false := by simpa using h
    rw [if_neg h]; simp [Scalar.select, IntOp.cmpi, hb]

/-- The ids as a row. -/
theorem pay32_at (k : Fin 5000) : k0_pay32 (F := Ideal) ids (ix2 0 k) = ids (ix3 0 0 k) := by
  pointwise [k0_pay32]

/-- The nodes' own part of the logits. -/
theorem pay1_at (k : Fin 5000) : k0_pay1 nf w1 (ix2 0 k) = ∑ f : Fin 128, w1 (ix2 0 f) * nf (ix2 k f) := by
  pointwise [k0_pay1]

section Full

variable (st : St Ideal)

/-- The logits, in the branch over all rows. -/
theorem pay19_at (k : Fin 5000) : k0_pay19 (k0_pay32 ids) (k0_pay1 nf w1) st.s bl (ix2 0 k) = zOf nf ids w1 bl st.s k := by
  unfold k0_pay19 k0_pay18
  pointwise []
  simp only [sel_eq, pay32_at, pay1_at]
  rfl

/-- The running maximum, in the branch over all rows. -/
theorem pay20_at : k0_pay20 (k0_pay32 ids) (k0_pay1 nf w1) st.s bl st.m (ix2 0 0) = mOf nf ids w1 bl st := by
  have h := pay19_at nf ids w1 bl st
  unfold k0_pay20 mOf
  generalize k0_pay19 (k0_pay32 ids) (k0_pay1 nf w1) st.s bl = z at h ⊢
  pointwise []
  simp only [h]

/-- The nodes' weights, in the branch over all rows. -/
theorem pay23_at (r : Fin 512) (k : Fin 5000) : k0_pay23 (k0_pay32 ids) (k0_pay1 nf w1) st.s bl st.m (ix2 r k) = eOf nf ids w1 bl st r.val k := by
  have h := pay19_at nf ids w1 bl st k
  have h2 := pay20_at nf ids w1 bl st
  unfold k0_pay23 k0_pay18 eOf
  generalize k0_pay19 (k0_pay32 ids) (k0_pay1 nf w1) st.s bl = z at h ⊢
  generalize k0_pay20 (k0_pay32 ids) (k0_pay1 nf w1) st.s bl st.m = M at h2 ⊢
  pointwise []
  simp only [sel_eq, pay32_at, h, h2]

/-- The branch over all rows computes the closed form. -/
theorem full_eq (wl : Vec Ideal S2x128 .f32) : fullSt nf ids wl bl st = stepSt nf ids (wl1 wl) bl st := by
  generalize hw : wl1 wl = w1
  unfold fullSt stepSt
  rw [hw]
  have h20 := pay20_at nf ids w1 bl st
  have h23 := pay23_at nf ids w1 bl st
  congr 1
  · funext i
    rw [show i = ix2 0 0 from funext fun a => by match a with | ⟨0, _⟩ => exact Subsingleton.elim (α := Fin 1) _ _ | ⟨1, _⟩ => exact Subsingleton.elim (α := Fin 1) _ _]
    unfold k0_pay22
    pointwise []
    exact h20
  · funext i
    obtain ⟨r, q, rfl⟩ : ∃ (r : Fin 512) (q : Fin 1), i = ix2 r q := ⟨i 0, i 1, eq_ix2 i⟩
    unfold k0_pay8 k0_pay24 k0_pay6 k0_pay21
    generalize k0_pay23 (k0_pay32 ids) (k0_pay1 nf w1) st.s bl st.m = E at h23 ⊢
    generalize k0_pay20 (k0_pay32 ids) (k0_pay1 nf w1) st.s bl st.m = M at h20 ⊢
    pointwise []
    simp only [h20, h23]
  · funext i
    obtain ⟨r, f, rfl⟩ : ∃ (r : Fin 512) (f : Fin 128), i = ix2 r f := ⟨i 0, i 1, eq_ix2 i⟩
    unfold k0_pay9 k0_pay25 k0_pay7 k0_pay21
    generalize k0_pay23 (k0_pay32 ids) (k0_pay1 nf w1) st.s bl st.m = E at h23 ⊢
    generalize k0_pay20 (k0_pay32 ids) (k0_pay1 nf w1) st.s bl st.m = M at h20 ⊢
    pointwise []
    simp only [h20, h23]

end Full

/-- Scratch arrays agree if each of the four does. -/
theorem St.mk_eq {s s' : Vec Ideal S512x1 .f32} {m m' : Vec Ideal S1x1 .f32} {d d' : Vec Ideal S512x1 .f32} {v v' : Vec Ideal S512x128 .f32}
    (hs : s = s') (hm : m = m') (hd : d = d') (hv : v = v') : (St.mk s m d v : St Ideal) = St.mk s' m' d' v' := by
  rw [hs, hm, hd, hv]

section Narrow

variable (st : St Ideal)

/-- A word's place in the 64-row window is the row whose number it is. -/
theorem word_iff {x L n : ℕ} (hx : x < 64) (hL : L ≤ 448) (h : L ≤ n) (h' : n < L + 64) :
    BitVec.ofNat 32 x = IntOp.subi (BitVec.ofNat 32 n) (BitVec.ofNat 32 L) ↔ BitVec.ofNat 32 (L + x) = BitVec.ofNat 32 n := by
  unfold IntOp.subi
  rw [← BitVec.toNat_inj, ← BitVec.toNat_inj]
  simp only [BitVec.toNat_sub, BitVec.toNat_ofNat]
  omega

/-- Small numbers are told apart as words. -/
theorem ofNat_iff {r n : ℕ} (hr : r < 2 ^ 31) (hn : n < 2 ^ 31) : BitVec.ofNat 32 r = BitVec.ofNat 32 n ↔ r = n := by
  rw [← BitVec.toNat_inj]
  simp only [BitVec.toNat_ofNat]
  omega

/-- In the windowed branch every id of the block is in the window's 64 rows, and the window is inside the 512. -/
theorem narrow_range (hn : ∀ y, 0 ≤ (ids y : BitVec 32).toInt) (h2 : k0_cond2 (loW (F := Ideal) ids) (hiW (F := Ideal) ids) = 1#1) :
    ∃ L : ℕ, L ≤ 448 ∧ lo8W (loW (F := Ideal) ids) = BitVec.ofNat 32 L ∧
      ∀ k : Fin 5000, ∃ n : ℕ, ids (ix3 0 0 k) = BitVec.ofNat 32 n ∧ L ≤ n ∧ n < L + 64 := by
  obtain ⟨lo, hlo, elo⟩ := exists_ofNat (loW_nonneg (F := Ideal) hn)
  have tI : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  have hhi0 : 0 ≤ (hiW (F := Ideal) ids).toInt := (hn (ix3 0 0 0)).trans (le_hiW (F := Ideal) ids (ix3 0 0 0))
  obtain ⟨hi, hhi, ehi⟩ := exists_ofNat hhi0
  refine ⟨min (lo / 8 * 8) 448, by omega, by rw [elo, lo8W_ofNat hlo], fun k => ?_⟩
  obtain ⟨n, hn', en⟩ := exists_ofNat (hn (ix3 0 0 k))
  have h1 := loW_le (F := Ideal) ids (ix3 0 0 k)
  have h3 := le_hiW (F := Ideal) ids (ix3 0 0 k)
  rw [en, elo, tI _ hlo, tI _ hn'] at h1
  rw [en, ehi, tI _ hhi, tI _ hn'] at h3
  have h4 := (cond2_iff _ _).1 h2
  unfold narW at h4
  rw [elo, lo8W_ofNat hlo, ehi] at h4
  have h5 : Scalar.subi (BitVec.ofNat 32 hi) (BitVec.ofNat 32 (min (lo / 8 * 8) 448)) = BitVec.ofNat 32 (hi - min (lo / 8 * 8) 448) := by
    show BitVec.ofNat 32 hi - BitVec.ofNat 32 (min (lo / 8 * 8) 448) = _
    rw [← BitVec.toNat_inj]
    simp only [BitVec.toNat_sub, BitVec.toNat_ofNat]
    omega
  rw [h5] at h4
  have h6 : (BitVec.ofNat 32 (hi - min (lo / 8 * 8) 448)).slt (BitVec.ofNat 32 64) = true := by
    by_contra hc
    have : Scalar.cmpi .slt (BitVec.ofNat 32 (hi - min (lo / 8 * 8) 448)) 64#32 = 0#1 := by
      show BitVec.ofBool (BitVec.slt _ (BitVec.ofNat 32 64)) = 0#1
      rw [Bool.eq_false_iff.2 hc]; rfl
    rw [this] at h4; exact absurd h4 (by decide)
  rw [slt_ofNat (by omega) (by omega)] at h6
  have h7 := of_decide_eq_true h6
  exact ⟨n, en, by omega, by omega⟩

variable (L : ℕ) (hL : L ≤ 448) (eL : lo8W (loW (F := Ideal) ids) = BitVec.ofNat 32 L)
  (hk : ∀ k : Fin 5000, ∃ n : ℕ, ids (ix3 0 0 k) = BitVec.ofNat 32 n ∧ L ≤ n ∧ n < L + 64)

include hL hk in
/-- A window row answers to a node exactly when the row of the array under it does. -/
theorem hot_iff (x : Fin 64) (k : Fin 5000) :
    BitVec.ofNat 32 x.val = IntOp.subi (ids (ix3 0 0 k)) (BitVec.ofNat 32 L) ↔ BitVec.ofNat 32 (L + x.val) = ids (ix3 0 0 k) := by
  obtain ⟨n, en, h1, h2⟩ := hk k
  rw [en]; exact word_iff x.isLt hL h1 h2

include hL hk in
/-- A node's segment score, picked through the window, is its segment's score. -/
theorem pick_eq (s : Vec Ideal S512x1 .f32) (k : Fin 5000) :
    (∑ x : Fin 64, if BitVec.ofNat 32 x.val = IntOp.subi (ids (ix3 0 0 k)) (BitVec.ofNat 32 L) then s (ix2 ⟨L + x.val, by omega⟩ 0) else 0)
      = ∑ r : Fin 512, if BitVec.ofNat 32 r.val = ids (ix3 0 0 k) then s (ix2 r 0) else 0 := by
  simp only [hot_iff ids L hL hk _ k]
  obtain ⟨n, en, h1, h2⟩ := hk k
  rw [en]
  rw [Finset.sum_eq_single (⟨n - L, by omega⟩ : Fin 64), Finset.sum_eq_single (⟨n, by omega⟩ : Fin 512)]
  · rw [if_pos (by congr 1; simp; omega), if_pos rfl]
    congr 2; apply Fin.ext; simp; omega
  · intro r _ hr
    rw [if_neg]; rw [ofNat_iff (by omega) (by omega)]; intro h; exact hr (Fin.ext h)
  · intro h; exact absurd (Finset.mem_univ _) h
  · intro x _ hx
    rw [if_neg]; rw [ofNat_iff (by omega) (by omega)]; intro h; exact hx (Fin.ext (by simp; omega))
  · intro h; exact absurd (Finset.mem_univ _) h

/-- The window of 64 scores, row by row. -/
theorem win_s (off : Fin 2 → ℕ) (h0 : off 0 = L) (h1 : off 1 = 0) (s : Vec Ideal S512x1 .f32) (inb) (x : Fin 64) (hx : L + x.val < 512) :
    VecWindow.window (s := S512x1) s off S64x1.size inb (ix2 x 0) = s (ix2 ⟨L + x.val, hx⟩ 0) := by
  unfold VecWindow.window
  congr 1
  funext a
  apply Fin.ext
  match a with
  | ⟨0, _⟩ => show off 0 + 1 * x.val = L + x.val; omega
  | ⟨1, _⟩ => show off 1 + 1 * 0 = 0; omega

/-- The window of 64 rows of sums, entry by entry. -/
theorem win_v (off : Fin 2 → ℕ) (h0 : off 0 = L) (h1 : off 1 = 0) (s : Vec Ideal S512x128 .f32) (inb) (x : Fin 64) (f : Fin 128) (hx : L + x.val < 512) :
    VecWindow.window (s := S512x128) s off S64x128.size inb (ix2 x f) = s (ix2 ⟨L + x.val, hx⟩ f) := by
  unfold VecWindow.window
  congr 1
  funext a
  apply Fin.ext
  match a with
  | ⟨0, _⟩ => show off 0 + 1 * x.val = L + x.val; omega
  | ⟨1, _⟩ => show off 1 + 1 * f.val = f.val; omega

/-- A column with 64 rows replaced, row by row. -/
theorem put_d (off : Fin 2 → ℕ) (h0 : off 0 = L) (h1 : off 1 = 0) (A : Vec Ideal S512x1 .f32) (B : Vec Ideal S64x1 .f32) (r : Fin 512) (q : Fin 1) :
    VecWindow.put (s := S512x1) A off S64x1.size B (ix2 r q) = if h : L ≤ r.val ∧ r.val < L + 64 then B (ix2 ⟨r.val - L, by omega⟩ 0) else A (ix2 r q) := by
  unfold VecWindow.put
  by_cases h : L ≤ r.val ∧ r.val < L + 64
  · have hh : ∀ a : Fin 2, off a ≤ ((ix2 r q : S512x1.Idx) a).val ∧ ((ix2 r q : S512x1.Idx) a).val < off a + S64x1.size a := fun a => by
      match a with
      | ⟨0, _⟩ => show off 0 ≤ r.val ∧ r.val < off 0 + 64; omega
      | ⟨1, _⟩ => show off 1 ≤ q.val ∧ q.val < off 1 + 1; have := q.isLt; omega
    rw [dif_pos hh, dif_pos h]
    congr 1
    funext a
    apply Fin.ext
    match a with
    | ⟨0, _⟩ => show r.val - off 0 = r.val - L; rw [h0]
    | ⟨1, _⟩ => show q.val - off 1 = 0; have := q.isLt; omega
  · rw [dif_neg h, dif_neg]
    intro hh
    have := hh 0
    exact h ⟨by have e : off 0 ≤ r.val := this.1; omega, by have e : r.val < off 0 + 64 := this.2; omega⟩

/-- An array with 64 rows replaced, entry by entry. -/
theorem put_v (off : Fin 2 → ℕ) (h0 : off 0 = L) (h1 : off 1 = 0) (A : Vec Ideal S512x128 .f32) (B : Vec Ideal S64x128 .f32) (r : Fin 512) (f : Fin 128) :
    VecWindow.put (s := S512x128) A off S64x128.size B (ix2 r f) = if h : L ≤ r.val ∧ r.val < L + 64 then B (ix2 ⟨r.val - L, by omega⟩ f) else A (ix2 r f) := by
  unfold VecWindow.put
  by_cases h : L ≤ r.val ∧ r.val < L + 64
  · have hh : ∀ a : Fin 2, off a ≤ ((ix2 r f : S512x128.Idx) a).val ∧ ((ix2 r f : S512x128.Idx) a).val < off a + S64x128.size a := fun a => by
      match a with
      | ⟨0, _⟩ => show off 0 ≤ r.val ∧ r.val < off 0 + 64; omega
      | ⟨1, _⟩ => show off 1 ≤ f.val ∧ f.val < off 1 + 128; have := f.isLt; omega
    rw [dif_pos hh, dif_pos h]
    congr 1
    funext a
    apply Fin.ext
    match a with
    | ⟨0, _⟩ => show r.val - off 0 = r.val - L; rw [h0]
    | ⟨1, _⟩ => show f.val - off 1 = f.val; omega
  · rw [dif_neg h, dif_neg]
    intro hh
    have := hh 0
    exact h ⟨by have e : off 0 ≤ r.val := this.1; omega, by have e : r.val < off 0 + 64 := this.2; omega⟩

variable (w64 : Vec Ideal S64x1 .f32) (hw64 : ∀ x : Fin 64, w64 (ix2 x 0) = st.s (ix2 ⟨L + x.val, by omega⟩ 0))

include hL hk hw64 in
/-- The logits, in the windowed branch. -/
theorem pay12_at (k : Fin 5000) : k0_pay12 (k0_pay32 ids) (BitVec.ofNat 32 L) (k0_pay1 nf w1) w64 bl (ix2 0 k) = zOf nf ids w1 bl st.s k := by
  have hp := pick_eq ids L hL hk st.s k
  unfold k0_pay12 k0_pay11
  pointwise []
  simp only [sel_eq, pay32_at, pay1_at, hw64, hp]
  rfl

include hL hk hw64 in
/-- The running maximum, in the windowed branch. -/
theorem pay13_at : k0_pay13 (k0_pay32 ids) (BitVec.ofNat 32 L) (k0_pay1 nf w1) w64 bl st.m (ix2 0 0) = mOf nf ids w1 bl st := by
  have h := pay12_at nf ids w1 bl st L hL hk w64 hw64
  unfold k0_pay13 mOf
  generalize k0_pay12 (k0_pay32 ids) (BitVec.ofNat 32 L) (k0_pay1 nf w1) w64 bl = z at h ⊢
  pointwise []
  simp only [h]

include hL hk hw64 in
/-- The nodes' weights, in the windowed branch. -/
theorem pay16_at (x : Fin 64) (k : Fin 5000) :
    k0_pay16 (k0_pay32 ids) (BitVec.ofNat 32 L) (k0_pay1 nf w1) w64 bl st.m (ix2 x k) = eOf nf ids w1 bl st (L + x.val) k := by
  have h := pay12_at nf ids w1 bl st L hL hk w64 hw64 k
  have h2 := pay13_at nf ids w1 bl st L hL hk w64 hw64
  have h3 := hot_iff ids L hL hk x k
  unfold k0_pay16 k0_pay11 eOf
  generalize k0_pay12 (k0_pay32 ids) (BitVec.ofNat 32 L) (k0_pay1 nf w1) w64 bl = z at h ⊢
  generalize k0_pay13 (k0_pay32 ids) (BitVec.ofNat 32 L) (k0_pay1 nf w1) w64 bl st.m = M at h2 ⊢
  pointwise []
  simp only [sel_eq, pay32_at, h, h2, h3]

include hL hk in
/-- Rows outside the window have no node in the block. -/
theorem eOf_out (r : Fin 512) (hr : ¬ (L ≤ r.val ∧ r.val < L + 64)) (k : Fin 5000) : eOf nf ids w1 bl st r.val k = 0 := by
  obtain ⟨n, en, h1, h2⟩ := hk k
  unfold eOf
  rw [if_neg]
  rw [en, ofNat_iff (by omega) (by omega)]
  omega

/-- The windowed branch computes the closed form. -/
theorem narrow_eq (wl : Vec Ideal S2x128 .f32) (hn : ∀ y, 0 ≤ (ids y : BitVec 32).toInt)
    (hchk : k0_chk1 (loW (F := Ideal) ids) (hiW (F := Ideal) ids)) (h2 : k0_cond2 (loW (F := Ideal) ids) (hiW (F := Ideal) ids) = 1#1) :
    narrowSt nf ids wl bl hchk h2 st = stepSt nf ids (wl1 wl) bl st := by
  obtain ⟨L, hL, eL, hk⟩ := narrow_range ids hn h2
  have hoff : ∀ a, k0_off1 (loW (F := Ideal) ids) a = ![L, 0] a := fun a => by
    match a with
    | ⟨0, _⟩ => show (lo8W (loW (F := Ideal) ids)).toNat = L; rw [eL, BitVec.toNat_ofNat]; omega
    | ⟨1, _⟩ => rfl
  have hoff2 : ∀ a, k0_off2 (loW (F := Ideal) ids) a = ![L, 0] a := fun a => by
    match a with
    | ⟨0, _⟩ => show (lo8W (loW (F := Ideal) ids)).toNat = L; rw [eL, BitVec.toNat_ofNat]; omega
    | ⟨1, _⟩ => rfl
  have hw64 := fun x : Fin 64 => win_s L (k0_off1 (loW (F := Ideal) ids)) (hoff 0) (hoff 1) st.s (k0_off1_inb _ _ hchk h2) x (by omega)
  generalize hw : wl1 wl = w1
  unfold narrowSt stepSt
  rw [hw, eL]
  generalize VecWindow.window st.s (k0_off1 (loW (F := Ideal) ids)) S64x1.size (k0_off1_inb _ _ hchk h2) = w64 at hw64 ⊢
  have h13 := pay13_at nf ids w1 bl st L hL hk w64 hw64
  have h16 := pay16_at nf ids w1 bl st L hL hk w64 hw64
  refine St.mk_eq rfl ?_ ?_ ?_
  · funext i
    rw [show i = ix2 0 0 from funext fun a => by match a with | ⟨0, _⟩ => exact Subsingleton.elim (α := Fin 1) _ _ | ⟨1, _⟩ => exact Subsingleton.elim (α := Fin 1) _ _]
    unfold k0_pay15
    pointwise []
    exact h13
  · funext i
    obtain ⟨r, q, rfl⟩ : ∃ (r : Fin 512) (q : Fin 1), i = ix2 r q := ⟨i 0, i 1, eq_ix2 i⟩
    obtain rfl : q = 0 := Subsingleton.elim _ _
    unfold k0_pay17 k0_pay14
    generalize k0_pay16 (k0_pay32 ids) (BitVec.ofNat 32 L) (k0_pay1 nf w1) w64 bl st.m = E at h16 ⊢
    generalize k0_pay13 (k0_pay32 ids) (BitVec.ofNat 32 L) (k0_pay1 nf w1) w64 bl st.m = M at h13 ⊢
    rw [put_d L _ (hoff 0) (hoff 1)]
    by_cases hr : L ≤ r.val ∧ r.val < L + 64
    · rw [dif_pos hr]
      unfold k0_pay4
      have hwin := win_s L (k0_off1 (loW (F := Ideal) ids)) (hoff 0) (hoff 1) (k0_pay2 (exp (subf st.m M)) st.d) (k0_off1_inb _ _ hchk h2) ⟨r.val - L, by omega⟩ (by simp only; omega)
      generalize VecWindow.window (k0_pay2 (exp (subf st.m M)) st.d) (k0_off1 (loW (F := Ideal) ids)) S64x1.size (k0_off1_inb _ _ hchk h2) = W at hwin ⊢
      pointwise []
      rw [hwin]
      have er : (⟨L + (⟨r.val - L, by omega⟩ : Fin 64).val, by simp only; omega⟩ : Fin 512) = r := Fin.ext (by simp only; omega)
      rw [er]
      unfold k0_pay2
      pointwise []
      simp only [h13, h16, show L + (r.val - L) = r.val by omega]
    · rw [dif_neg hr]
      have h0 : ∑ k : Fin 5000, eOf nf ids w1 bl st r.val k = 0 := Finset.sum_eq_zero fun k _ => eOf_out nf ids w1 bl st L hL hk r hr k
      show _ = st.d (ix2 r 0) * _ + ∑ k : Fin 5000, eOf nf ids w1 bl st r.val k
      rw [h0]
      unfold k0_pay2
      pointwise []
      simp only [h13, add_zero]
  · funext i
    obtain ⟨r, f, rfl⟩ : ∃ (r : Fin 512) (f : Fin 128), i = ix2 r f := ⟨i 0, i 1, eq_ix2 i⟩
    unfold k0_pay14
    generalize k0_pay16 (k0_pay32 ids) (BitVec.ofNat 32 L) (k0_pay1 nf w1) w64 bl st.m = E at h16 ⊢
    generalize k0_pay13 (k0_pay32 ids) (BitVec.ofNat 32 L) (k0_pay1 nf w1) w64 bl st.m = M at h13 ⊢
    rw [put_v L _ (hoff2 0) (hoff2 1)]
    by_cases hr : L ≤ r.val ∧ r.val < L + 64
    · rw [dif_pos hr]
      unfold k0_pay5
      have hwin := win_v L (k0_off2 (loW (F := Ideal) ids)) (hoff2 0) (hoff2 1) (k0_pay3 (exp (subf st.m M)) st.v) (k0_off2_inb _ _ hchk h2) ⟨r.val - L, by omega⟩ f (by simp only; omega)
      generalize VecWindow.window (k0_pay3 (exp (subf st.m M)) st.v) (k0_off2 (loW (F := Ideal) ids)) S64x128.size (k0_off2_inb _ _ hchk h2) = W at hwin ⊢
      pointwise []
      rw [hwin]
      have er : (⟨L + (⟨r.val - L, by omega⟩ : Fin 64).val, by simp only; omega⟩ : Fin 512) = r := Fin.ext (by simp only; omega)
      rw [er]
      unfold k0_pay3
      pointwise []
      simp only [h13, h16, show L + (r.val - L) = r.val by omega]
    · have h0 : ∀ k : Fin 5000, eOf nf ids w1 bl st r.val k * nf (ix2 k f) = 0 := fun k => by rw [eOf_out nf ids w1 bl st L hL hk r hr k, zero_mul]
      rw [dif_neg hr]
      show _ = st.v (ix2 r f) * _ + ∑ k : Fin 5000, eOf nf ids w1 bl st r.val k * nf (ix2 k f)
      rw [Finset.sum_eq_zero fun k _ => h0 k]
      unfold k0_pay3
      pointwise []
      simp only [h13, add_zero]

end Narrow

/-- Whichever branch the kernel takes, one block's update is the closed form. -/
theorem acc_eq (st : St Ideal) (wl : Vec Ideal S2x128 .f32) (hn : ∀ y, 0 ≤ (ids y : BitVec 32).toInt)
    (hchk : k0_chk1 (loW (F := Ideal) ids) (hiW (F := Ideal) ids)) : accSt nf ids wl bl hchk st = stepSt nf ids (wl1 wl) bl st := by
  unfold accSt
  split
  · exact narrow_eq nf ids bl st wl hn hchk _
  · exact full_eq nf ids bl st wl

end Cert.KernelIdeal.Hand

end
-- ==== Proof.Sums.lean ====
/-
  Sums of exponentials over the nodes of a segment, as real numbers: the node-by-node partial sums the kernel keeps, what a change of the
  reference point does to them, and finite sums of reals read as extended reals.
-/
module

public import proofs.«01_k».proof.Proof.IdealUpdate

@[expose] public section

noncomputable section

namespace Cert.Proof

open Idealize.ShloMosaic

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real chosen by a condition, read as an extended real. -/
theorem coe_ite (p : Prop) [Decidable p] (a b : ℝ) : ((if p then a else b : ℝ) : EReal) = if p then (a : EReal) else (b : EReal) := by
  split <;> rfl

/-- The exponential of a real. -/
theorem exp_coe (a : ℝ) : Ideal.exp (a : EReal) = (Real.exp a : EReal) := rfl

/-- The exponential of a difference of reals. -/
theorem exp_sub_coe (a b : ℝ) : Ideal.exp ((a : EReal) - (b : EReal)) = (Real.exp (a - b) : EReal) := by
  rw [← EReal.coe_sub]; rfl

/-- An extended real that is neither end is a real. -/
theorem exists_real {x : EReal} (h : x ≠ ⊥) (h' : x ≠ ⊤) : ∃ r : ℝ, x = r := ⟨x.toReal, (EReal.coe_toReal h' h).symm⟩

/-- Sums up to a bound, over the first `b` numbers below `K`. -/
theorem sum_below {K : ℕ} (G : Fin K → ℝ) (b : ℕ) (hb : b ≤ K) :
    (∑ n : Fin K, if n.val < b then G n else 0) = ∑ n ∈ Finset.range b, (if h : n < K then G ⟨n, h⟩ else 0) := by
  have h1 : (∑ n : Fin K, if n.val < b then G n else 0)
      = ∑ n : Fin K, (fun n : ℕ => if n < b then (if h : n < K then G ⟨n, h⟩ else 0) else 0) n.val :=
    Finset.sum_congr rfl fun n _ => by simp only [n.isLt, dif_pos, Fin.eta]
  rw [h1, Fin.sum_univ_eq_sum_range (fun n : ℕ => if n < b then (if h : n < K then G ⟨n, h⟩ else 0) else 0), ← Finset.sum_filter]
  refine Finset.sum_congr ?_ fun _ _ => rfl
  ext n; simp only [Finset.mem_filter, Finset.mem_range]; omega

/-- The numbers below a block's end are those below its start and its own. -/
theorem sum_block {K B : ℕ} (G : Fin K → ℝ) (t : ℕ) (ht : (t + 1) * B ≤ K) :
    (∑ n : Fin K, if n.val < (t + 1) * B then G n else 0)
      = (∑ n : Fin K, if n.val < t * B then G n else 0) + ∑ k : Fin B, G ⟨t * B + k.val, by have := k.isLt; rw [Nat.add_mul] at ht; omega⟩ := by
  rw [sum_below G _ ht, sum_below G (t * B) (by rw [Nat.add_mul] at ht; omega), Nat.add_mul, Nat.one_mul, Finset.sum_range_add]
  refine congrArg₂ (· + ·) rfl ?_
  rw [← Fin.sum_univ_eq_sum_range (fun k : ℕ => if h : t * B + k < K then G ⟨t * B + k, h⟩ else 0)]
  refine Finset.sum_congr rfl fun k _ => ?_
  have := k.isLt
  rw [Nat.add_mul] at ht
  rw [dif_pos (by omega)]

section Weighted

variable (id : Fin 100000 → BitVec 32) (Z : Fin 100000 → ℝ)

/-- A node's weight in segment `r`'s sums, relative to `M`. -/
def wt (M : ℝ) (r : ℕ) (n : Fin 100000) : ℝ := if BitVec.ofNat 32 r = id n then Real.exp (Z n - M) else 0

/-- The weighted sum of `G` over the nodes before point `T` that are in segment `r`. -/
def wSum (M : ℝ) (r T : ℕ) (G : Fin 100000 → ℝ) : ℝ := ∑ n : Fin 100000, if n.val < T * 5000 then wt id Z M r n * G n else 0

/-- Nothing is summed before the first point. -/
theorem wSum_zero (M : ℝ) (r : ℕ) (G : Fin 100000 → ℝ) : wSum id Z M r 0 G = 0 := by
  unfold wSum
  refine Finset.sum_eq_zero fun n _ => if_neg (by omega)

/-- After the last point all nodes are summed. -/
theorem wSum_all (M : ℝ) (r : ℕ) (G : Fin 100000 → ℝ) : wSum id Z M r 20 G = ∑ n : Fin 100000, wt id Z M r n * G n := by
  unfold wSum
  refine Finset.sum_congr rfl fun n _ => if_pos (by have := n.isLt; omega)

/-- A change of the reference point multiplies a weight. -/
theorem wt_move (M M' : ℝ) (r : ℕ) (n : Fin 100000) : wt id Z M r n * Real.exp (M - M') = wt id Z M' r n := by
  unfold wt
  split
  · rw [← Real.exp_add]; congr 1; ring
  · rw [zero_mul]

/-- One point's update of a weighted sum. -/
theorem wSum_step (M M' : ℝ) (r t : ℕ) (ht : t < 20) (G : Fin 100000 → ℝ) :
    wSum id Z M r t G * Real.exp (M - M') + ∑ k : Fin 5000, wt id Z M' r ⟨t * 5000 + k.val, by have := k.isLt; omega⟩ * G ⟨t * 5000 + k.val, by have := k.isLt; omega⟩
      = wSum id Z M' r (t + 1) G := by
  unfold wSum
  rw [sum_block (B := 5000) (fun n => wt id Z M' r n * G n) t (by omega), Finset.sum_mul]
  refine congrArg₂ (· + ·) (Finset.sum_congr rfl fun n _ => ?_) rfl
  split
  · rw [mul_right_comm, wt_move]
  · rw [zero_mul]

end Weighted

end Cert.Proof

end
-- ==== Proof.IdealScan.lean ====
/-
  The scratch arrays of the kernel of `proofs.«01_k».proof.KernelIdeal` after each point, where the logits are reals: the running maximum is some
  real, and the two sums are those of the nodes so far, weighted by exponentials relative to it.
-/
module

public import proofs.«01_k».proof.Proof.IdealBlocks
public import proofs.«01_k».proof.Proof.Sums

@[expose] public section

set_option maxRecDepth 16384

noncomputable section

namespace Cert.KernelIdeal.Hand

open Idealize.ShloMosaic Idealize.ShloMosaic.TcCoe Idealize.SL.Sem Cert.KernelIdeal Cert.KernelIdeal.Gen Cert.Proof

section Step

variable (id : Fin 100000 → BitVec 32) (Z : Fin 100000 → ℝ) (N : Fin 100000 → Fin 128 → ℝ) (s : Vec Ideal S512x1 .f32)

/-- What the scratch arrays hold before point `T`. -/
def Holds (T : ℕ) (st : St Ideal) : Prop :=
  st.s = s ∧ ∃ M : ℝ, st.m (ix2 0 0) = M ∧ (∀ r : Fin 512, st.d (ix2 r 0) = ((wSum id Z M r T fun _ => 1 : ℝ) : EReal))
    ∧ ∀ (r : Fin 512) (f : Fin 128), st.v (ix2 r f) = ((wSum id Z M r T fun n => N n f : ℝ) : EReal)

/-- One point's update keeps it. -/
theorem holds_step (nf : Vec Ideal S5000x128 .f32) (ids : Vec Ideal S1x1x5000 .i32) (w1 : Vec Ideal S1x128 .f32) (bl : Vec Ideal S1x1 .f32)
    (st : St Ideal) (t : Fin cfg0.N) (h : Holds id Z N s t.val st) (hnf : ∀ k f, nf (ix2 k f) = (N (node t k) f : EReal))
    (hid : ∀ k, ids (ix3 0 0 k) = id (node t k)) (hz : ∀ k, zOf nf ids w1 bl s k = (Z (node t k) : EReal)) :
    Holds id Z N s (t.val + 1) (stepSt nf ids w1 bl st) := by
  obtain ⟨hs, M, hM, hd, hv⟩ := h
  have hM' : ∃ M' : ℝ, mOf nf ids w1 bl st = M' := by
    unfold mOf
    rw [hM, hs]
    refine exists_real (ne_of_gt (lt_of_lt_of_le (EReal.bot_lt_coe M) (le_max_left _ _))) (ne_of_lt (max_lt (EReal.coe_lt_top M) ?_))
    rw [Finset.fold_max_lt]
    refine ⟨?_, fun x _ => by rw [hz]; exact EReal.coe_lt_top _⟩
    simp [Ideal.ofBits, Ideal.ieee]
  obtain ⟨M', hM'⟩ := hM'
  have he : ∀ (r : Fin 512) (k : Fin 5000), eOf nf ids w1 bl st r.val k = (wt id Z M' r (node t k) : EReal) := fun r k => by
    unfold eOf wt
    rw [hid, hs, hz, hM', exp_sub_coe, coe_ite]
    rfl
  have ht : t.val < 20 := t.isLt
  refine ⟨hs, M', hM', fun r => ?_, fun r f => ?_⟩
  · show st.d (ix2 r 0) * Ideal.exp (st.m (ix2 0 0) - mOf nf ids w1 bl st) + ∑ k : Fin 5000, eOf nf ids w1 bl st r.val k = _
    rw [hd, hM, hM', exp_sub_coe, ← wSum_step id Z M M' r t.val ht, EReal.coe_add, EReal.coe_mul, coe_sum]
    refine congrArg₂ (· + ·) rfl (Finset.sum_congr rfl fun k _ => ?_)
    rw [he, mul_one]; rfl
  · show st.v (ix2 r f) * Ideal.exp (st.m (ix2 0 0) - mOf nf ids w1 bl st) + ∑ k : Fin 5000, eOf nf ids w1 bl st r.val k * nf (ix2 k f) = _
    rw [hv, hM, hM', exp_sub_coe, ← wSum_step id Z M M' r t.val ht, EReal.coe_add, EReal.coe_mul, coe_sum]
    refine congrArg₂ (· + ·) rfl (Finset.sum_congr rfl fun k _ => ?_)
    rw [he, hnf, EReal.coe_mul]; rfl

end Step

/-- A segment's score: its rectified features by the first 128 logit weights. -/
def scoreArg (x1 : Vec Ideal S512x128 .f32) (x3 : Vec Ideal S1x256 .f32) (r : Fin 512) : EReal :=
  ∑ f : Fin 128, max (x1 (ix2 r f)) 0 * x3 (ix2 0 ⟨f.val, by omega⟩)

/-- A node's logit, from the arguments. -/
def logitArg (x0 : Vec Ideal S100000x128 .f32) (x1 : Vec Ideal S512x128 .f32) (x2 : Vec Ideal S100000 .i32) (x3 : Vec Ideal S1x256 .f32)
    (x4 : Vec Ideal S1 .f32) (n : Fin 100000) : EReal :=
  lrelu ((∑ f : Fin 128, x3 (ix2 0 ⟨128 + f.val, by omega⟩) * x0 (ix2 n f))
    + (∑ r : Fin 512, if BitVec.ofNat 32 r.val = x2 (ix1 n) then scoreArg x1 x3 r else 0) + x4 (ix1 0))

section Scan

variable (m : (ℓ : Loc nD τ sig) → Buf (Elt Ideal) ℓ) (H : Inb m) (c : Dev nD)

/-- The scores the first point keeps. -/
def scores : Vec Ideal S512x1 .f32 := fun i => scoreArg (m ((c : Thread nD τ).loc main_arg1)) (m ((c : Thread nD τ).loc main_arg3)) (i 0)

/-- Row 0 of the weights in a point's block. -/
theorem wl0_at (t : Fin cfg0.N) (f : Fin 128) : wl0 (iblk m c 3 t) (ix2 0 f) = m ((c : Thread nD τ).loc main_arg3) (ix2 0 ⟨f.val, by omega⟩) := by
  refine Eq.trans (congrArg (iblk m c 3 t) (funext fun a => Fin.ext ?_ : _ = ValueIdx.ix2 0 f)) ((iblk3_apply m c t 0 f).trans (congrArg _ (funext fun a => Fin.ext ?_)))
  · match a with
    | ⟨0, _⟩ => rfl
    | ⟨1, _⟩ => show 0 + 1 * f.val = f.val; omega
  · match a with
    | ⟨0, _⟩ => rfl
    | ⟨1, _⟩ => show 0 * 128 + f.val = f.val; omega

/-- Row 1 of the weights in a point's block. -/
theorem wl1_at (t : Fin cfg0.N) (f : Fin 128) : wl1 (iblk m c 3 t) (ix2 0 f) = m ((c : Thread nD τ).loc main_arg3) (ix2 0 ⟨128 + f.val, by omega⟩) := by
  refine Eq.trans (congrArg (iblk m c 3 t) (funext fun a => Fin.ext ?_ : _ = ValueIdx.ix2 1 f)) ((iblk3_apply m c t 1 f).trans (congrArg _ (funext fun a => Fin.ext ?_)))
  · match a with
    | ⟨0, _⟩ => rfl
    | ⟨1, _⟩ => show 0 + 1 * f.val = f.val; omega
  · match a with
    | ⟨0, _⟩ => rfl
    | ⟨1, _⟩ => show 1 * 128 + f.val = 128 + f.val; omega

/-- A point's logits, from the arguments. -/
theorem zOf_at (t : Fin cfg0.N) (k : Fin 5000) :
    zOf (iblk m c 0 t) (iblk m c 1 t) (wl1 (iblk m c 3 t)) (iblk m c 4 t) (scores m c) k
      = logitArg (m ((c : Thread nD τ).loc main_arg0)) (m ((c : Thread nD τ).loc main_arg1)) (m ((c : Thread nD τ).loc main_arg2))
          (m ((c : Thread nD τ).loc main_arg3)) (m ((c : Thread nD τ).loc main_arg4)) (node t k) := by
  unfold zOf logitArg
  have h0 : ∀ f, iblk m c 0 t (ix2 k f) = m ((c : Thread nD τ).loc main_arg0) (ix2 (node t k) f) := fun f => iblk0_apply m c t k f
  have h1 : iblk m c 1 t (ix3 0 0 k) = m ((c : Thread nD τ).loc main_arg2) (ix1 (node t k)) := iblk1_apply m c t k
  have h4 : iblk m c 4 t (ix2 0 0) = m ((c : Thread nD τ).loc main_arg4) (ix1 0) := iblk4_apply m c t
  simp only [wl1_at, h0, h1, h4]
  rfl

variable (Z : Fin 100000 → ℝ) (N : Fin 100000 → Fin 128 → ℝ)
  (hZ : ∀ n, logitArg (m ((c : Thread nD τ).loc main_arg0)) (m ((c : Thread nD τ).loc main_arg1)) (m ((c : Thread nD τ).loc main_arg2))
          (m ((c : Thread nD τ).loc main_arg3)) (m ((c : Thread nD τ).loc main_arg4)) n = (Z n : EReal))
  (hN : ∀ n f, m ((c : Thread nD τ).loc main_arg0) (ix2 n f) = (N n f : EReal))
  (hi : ∀ n, 0 ≤ (m ((c : Thread nD τ).loc main_arg2) n : BitVec 32).toInt)

/-- The nodes' segments. -/
def idOf (n : Fin 100000) : BitVec 32 := m ((c : Thread nD τ).loc main_arg2) (ix1 n)

include hi in
/-- A point's ids are not negative. -/
theorem iblk1_nonneg (t : Fin cfg0.N) (y) : 0 ≤ (iblk m c 1 t y : BitVec 32).toInt := by
  rw [ix_ids y]; exact (congrArg BitVec.toInt (iblk1_apply m c t (y 2))).symm ▸ hi _

include hZ hN hi in
/-- A point's update, from scratch arrays as they should be before it. -/
theorem holds_acc (t : Fin cfg0.N) (st : St Ideal) (h : Holds (idOf m c) Z N (scores m c) t.val st) :
    Holds (idOf m c) Z N (scores m c) (t.val + 1) (accSt (iblk m c 0 t) (iblk m c 1 t) (iblk m c 3 t) (iblk m c 4 t) (H c t) st) := by
  rw [acc_eq _ _ _ _ _ (iblk1_nonneg m c hi t)]
  exact holds_step _ _ _ _ _ _ _ _ _ t h (fun k f => (iblk0_apply m c t k f).trans (hN _ _)) (fun k => iblk1_apply m c t k)
    (fun k => (zOf_at m c t k).trans (hZ _))

/-- What the first point fills the scratch arrays with. -/
theorem holds_init (t : Fin cfg0.N) : Holds (idOf m c) Z N (scores m c) 0 (initSt (iblk m c 2 t) (iblk m c 3 t)) := by
  refine ⟨?_, ?_⟩
  · funext i
    obtain ⟨r, q, rfl⟩ : ∃ (r : Fin 512) (q : Fin 1), i = ix2 r q := ⟨i 0, i 1, eq_ix2 i⟩
    obtain rfl : q = 0 := Subsingleton.elim _ _
    have hw := wl0_at m c t
    have hg := iblk2_eq m c t
    show k0_pay28 (iblk m c 2 t) (wl0 (iblk m c 3 t)) (ix2 r 0) = scoreArg _ _ r
    unfold k0_pay28 scoreArg
    generalize wl0 (iblk m c 3 t) = w at hw ⊢
    rw [hg]
    pointwise []
    simp only [hw]
  · have hm : ∃ M : ℝ, (k0_pay29 (F := Ideal)) (ix2 0 0) = M := by
      unfold k0_pay29
      pointwise []
      refine ⟨_, (?_ : Ideal.ofBits FTy.f32 4048155338#32 = ((-1000000015047466219876688855040 : ℝ) : EReal))⟩
      simp [Ideal.ofBits, Ideal.ieee, -EReal.coe_mul]; norm_num
    obtain ⟨M, hM⟩ := hm
    refine ⟨M, hM, fun r => ?_, fun r f => ?_⟩
    · rw [wSum_zero]
      show (k0_pay30 (F := Ideal)) (ix2 r 0) = _
      unfold k0_pay30
      pointwise []
      rfl
    · rw [wSum_zero]
      show (k0_pay31 (F := Ideal)) (ix2 r f) = _
      unfold k0_pay31
      pointwise []
      rfl

include hZ hN hi in
/-- What the scratch arrays hold after each point. -/
theorem holds_stN : ∀ (n : ℕ) (h : n < cfg0.N), Holds (idOf m c) Z N (scores m c) (n + 1) (stN m H c n h)
  | 0, h => holds_acc m H c Z N hZ hN hi ⟨0, h⟩ _ (holds_init m c Z N ⟨0, h⟩)
  | n + 1, h => holds_acc m H c Z N hZ hN hi ⟨n + 1, h⟩ _ (holds_stN n (Nat.lt_of_succ_lt h))

end Scan

end Cert.KernelIdeal.Hand

end
-- ==== Proof.Finite.lean ====
/-
  What the precondition on finite inputs says of each entry, and that it makes every node's logit a real.
-/
module

public import proofs.«01_k».proof.Pre_finite_logits
public import proofs.«01_k».proof.Proof.Gen.Pre_finite_logits
public import proofs.«01_k».proof.Proof.Ids
public import proofs.«01_k».proof.Proof.IdealScan

@[expose] public section

set_option maxRecDepth 16384

noncomputable section

namespace Cert.Proof

open Idealize.ShloMosaic
open Cert.KernelIdeal.Hand (lrelu scoreArg logitArg)

/-- To be one of the reals. -/
def IsReal (x : EReal) : Prop := ∃ r : ℝ, x = r

/-- A real is one. -/
theorem isReal_coe (r : ℝ) : IsReal (r : EReal) := ⟨r, rfl⟩

/-- Zero is a real. -/
theorem isReal_zero : IsReal 0 := ⟨0, rfl⟩

/-- Sums of two reals are reals. -/
theorem IsReal.add {x y : EReal} : IsReal x → IsReal y → IsReal (x + y)
  | ⟨a, ha⟩, ⟨b, hb⟩ => ⟨a + b, by rw [ha, hb, EReal.coe_add]⟩

/-- Products of two reals are reals. -/
theorem IsReal.mul {x y : EReal} : IsReal x → IsReal y → IsReal (x * y)
  | ⟨a, ha⟩, ⟨b, hb⟩ => ⟨a * b, by rw [ha, hb, EReal.coe_mul]⟩

/-- Sums of reals are reals. -/
theorem isReal_sum {ι : Type} (s : Finset ι) {f : ι → EReal} (h : ∀ i, IsReal (f i)) : IsReal (∑ i ∈ s, f i) :=
  ⟨∑ i ∈ s, (h i).choose, by rw [coe_sum]; exact Finset.sum_congr rfl fun i _ => (h i).choose_spec⟩

/-- One of two reals is a real. -/
theorem isReal_ite {p : Prop} [Decidable p] {x y : EReal} (hx : IsReal x) (hy : IsReal y) : IsReal (if p then x else y) := by
  split <;> assumption

/-- The greater of zero and something below infinity is a real. -/
theorem isReal_max {x : EReal} (h : x < ⊤) : IsReal (max x 0) :=
  exists_real (ne_of_gt (lt_of_lt_of_le EReal.bot_lt_zero (le_max_right _ _))) (ne_of_lt (max_lt h EReal.zero_lt_top))

/-- The leaky rectifier keeps reals. -/
theorem isReal_lrelu {x : EReal} (h : IsReal x) : IsReal (lrelu x) := by
  unfold lrelu
  refine isReal_ite h (IsReal.mul ?_ h)
  refine exists_real ?_ ?_ <;> simp [Ideal.ofBits, Ideal.ieee, -EReal.coe_mul, EReal.coe_ne_bot, EReal.coe_ne_top]

/-- The word of positive infinity. -/
theorem ofBits_top : Ideal.ofBits .f32 0x7F800000#32 = (⊤ : EReal) := by simp [Ideal.ofBits, Ideal.ieee]

/-- What passes the test against infinity is below it. -/
theorem lt_top_of_olt {x : EReal} (h : Ideal.cmp .olt x (Ideal.ofBits .f32 0x7F800000#32) = 1#1) : x < ⊤ := by
  rw [ofBits_top] at h
  by_contra hc
  have h' : BitVec.ofBool (decide (x < ⊤)) = 1#1 := h
  rw [decide_eq_false hc] at h'
  exact absurd h' (by decide)

/-- What passes it with its sign dropped is a real. -/
theorem isReal_of_olt {x : EReal} (h : Ideal.cmp .olt (max x (-x)) (Ideal.ofBits .f32 0x7F800000#32) = 1#1) : IsReal x := by
  have h1 := lt_top_of_olt h
  refine exists_real (fun hb => ?_) (ne_of_lt (lt_of_le_of_lt (le_max_left _ _) h1))
  rw [hb] at h1
  exact absurd (lt_of_le_of_lt (le_max_right _ _) h1) (by simp)

section Pre

variable (x0 : Vec Ideal Cert.KernelIdeal.S100000x128 .f32) (x1 : Vec Ideal Cert.KernelIdeal.S512x128 .f32) (x2 : Vec Ideal Cert.KernelIdeal.S100000 .i32)
  (x3 : Vec Ideal Cert.KernelIdeal.S1x256 .f32) (x4 : Vec Ideal Cert.KernelIdeal.S1 .f32) (x5 : Vec Ideal Cert.KernelIdeal.S128x128 .f32)
  (x6 : Vec Ideal Cert.KernelIdeal.S128 .f32) (x7 x8 : Vec Ideal Cert.KernelIdeal.S384x128 .f32) (x9 x10 : Vec Ideal Cert.KernelIdeal.S384 .f32)

/-- What the precondition tests, all of it passed. -/
def Passed : Prop :=
  (@Pre_finite_logits.fn Pre_finite_logits.Gen.facts Ideal _ x0 x1 x2 x3 x4 x5 x6 x7 x8 x9 x10).1 = (fun _ => 1#1)
  ∧ (@Pre_finite_logits.fn Pre_finite_logits.Gen.facts Ideal _ x0 x1 x2 x3 x4 x5 x6 x7 x8 x9 x10).2.1 = (fun _ => 1#1)
  ∧ (@Pre_finite_logits.fn Pre_finite_logits.Gen.facts Ideal _ x0 x1 x2 x3 x4 x5 x6 x7 x8 x9 x10).2.2.1 = (fun _ => 1#1)
  ∧ (@Pre_finite_logits.fn Pre_finite_logits.Gen.facts Ideal _ x0 x1 x2 x3 x4 x5 x6 x7 x8 x9 x10).2.2.2.1 = (fun _ => 1#1)
  ∧ (@Pre_finite_logits.fn Pre_finite_logits.Gen.facts Ideal _ x0 x1 x2 x3 x4 x5 x6 x7 x8 x9 x10).2.2.2.2.1 = (fun _ => 1#1)
  ∧ (@Pre_finite_logits.fn Pre_finite_logits.Gen.facts Ideal _ x0 x1 x2 x3 x4 x5 x6 x7 x8 x9 x10).2.2.2.2.2 = (fun _ => 1#1)

variable {x0 x1 x2 x3 x4 x5 x6 x7 x8 x9 x10}
variable (h : Passed x0 x1 x2 x3 x4 x5 x6 x7 x8 x9 x10)

include h

/-- No id is negative. -/
theorem Passed.ids (n) : 0 ≤ (x2 n : BitVec 32).toInt := nonneg_of_sge (congrFun h.1 n)

/-- The nodes' features are reals. -/
theorem Passed.nodes (i) : IsReal (x0 i) := isReal_of_olt (congrFun h.2.1 i)

/-- The segments' features are below infinity. -/
theorem Passed.segments (i) : x1 i < ⊤ := lt_top_of_olt (congrFun h.2.2.1 i)

/-- The logit weights are reals. -/
theorem Passed.weights (i) : IsReal (x3 i) := isReal_of_olt (congrFun h.2.2.2.1 i)

/-- The logit bias is a real. -/
theorem Passed.bias (i) : IsReal (x4 i) := isReal_of_olt (congrFun h.2.2.2.2.1 i)

/-- The projection weights are reals. -/
theorem Passed.proj (i) : IsReal (x5 i) := isReal_of_olt (congrFun h.2.2.2.2.2 i)

/-- Every node's logit is a real. -/
theorem Passed.logit (n : Fin 100000) : IsReal (logitArg x0 x1 x2 x3 x4 n) := by
  refine isReal_lrelu (((isReal_sum _ fun f => (h.weights _).mul (h.nodes _)).add (isReal_sum _ fun r => isReal_ite ?_ isReal_zero)).add (h.bias _))
  exact isReal_sum _ fun f => (isReal_max (h.segments _)).mul (h.weights _)

end Pre

end Cert.Proof

end
-- ==== Proof.Gate.lean ====
/-
  The gated update of the segments' features from their contexts, as one function of the contexts: the kernel's last point and the
  reference's last lines both compute it.
-/
module

public import proofs.«01_k».proof.Proof.Gen.ReferenceIdeal.Read
public import proofs.«01_k».proof.Proof.IdealUpdate

@[expose] public section

set_option maxRecDepth 16384

noncomputable section

namespace Cert.Proof

open Idealize.ShloMosaic

/-- The exponential linear unit. -/
def elu (x : EReal) : EReal := if 0 < x then x else Ideal.exp x - 1

section Update

variable (C g : Fin 512 → Fin 128 → EReal) (wi wh : Fin 384 → Fin 128 → EReal) (bi bh : Fin 384 → EReal)

/-- The gates' part on the contexts. -/
def gi (r : Fin 512) (j : Fin 384) : EReal := ∑ k : Fin 128, elu (C r k) * wi j k + bi j

/-- The gates' part on the segments' features. -/
def gh (r : Fin 512) (j : Fin 384) : EReal := ∑ k : Fin 128, g r k * wh j k + bh j

/-- The update gate. -/
def zg (r : Fin 512) (f : Fin 128) : EReal := Ideal.logistic (gi C wi bi r ⟨128 + f.val, by omega⟩ + gh g wh bh r ⟨128 + f.val, by omega⟩)

/-- The gated update. -/
def gated (r : Fin 512) (f : Fin 128) : EReal :=
  (1 - zg C g wi wh bi bh r f) * Ideal.tanh (gi C wi bi r ⟨256 + f.val, by omega⟩
      + Ideal.logistic (gi C wi bi r ⟨f.val, by omega⟩ + gh g wh bh r ⟨f.val, by omega⟩) * gh g wh bh r ⟨256 + f.val, by omega⟩)
    + zg C g wi wh bi bh r f * g r f

end Update

section Kernel

open Cert.KernelIdeal Cert.KernelIdeal.Gen Cert.KernelIdeal.Hand

variable (g : Vec Ideal S512x128 .f32) (wp : Vec Ideal S128x128 .f32) (bp : Vec Ideal S1x128 .f32) (wih whh : Vec Ideal S384x128 .f32)
  (bih bhh : Vec Ideal S1x384 .f32) (st : St Ideal)

/-- The kernel's context of a segment: the mean of its features projected, and the bias if the segment has a node. -/
def ctxK (r : Fin 512) (f : Fin 128) : EReal :=
  ∑ k : Fin 128, Ideal.div (st.v (ix2 r k)) (if 0 < st.d (ix2 r 0) then st.d (ix2 r 0) else 1) * wp (ix2 f k)
    + (if 0 < st.d (ix2 r 0) then 1 else 0) * bp (ix2 0 f)

/-- The flag of a segment with a node, as a number. -/
theorem flag_eq (p : Prop) [Decidable p] :
    (FloatOps.sitofp (F := Ideal) FTy.f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- What the kernel's last point stores. -/
theorem finish_at (r : Fin 512) (f : Fin 128) :
    finishOut g wp bp wih whh bih bhh st (ix2 r f)
      = gated (ctxK wp bp st) (fun r k => g (ix2 r k)) (fun j k => wih (ix2 j k)) (fun j k => whh (ix2 j k)) (fun j => bih (ix2 0 j)) (fun j => bhh (ix2 0 j)) r f := by
  have hi : ∀ j : Fin 384, k0_pay26 st.d st.v wp bp wih bih (ix2 r j) = gi (ctxK wp bp st) (fun j k => wih (ix2 j k)) (fun j => bih (ix2 0 j)) r j := fun j => by
    unfold k0_pay26
    pointwise []
    simp only [flag_eq]
    rfl
  have hh : ∀ j : Fin 384, k0_pay27 g whh (ix2 r j) = ∑ k : Fin 128, g (ix2 r k) * whh (ix2 j k) := fun j => by
    unfold k0_pay27
    pointwise []
  unfold finishOut
  generalize k0_pay26 st.d st.v wp bp wih bih = A at hi ⊢
  generalize k0_pay27 g whh = B at hh ⊢
  unfold k0_pay10
  pointwise []
  simp only [hi, hh]
  rfl

end Kernel

section Reference

open Cert.ReferenceIdeal Cert.ReferenceIdeal.Gen Cert.ReferenceIdeal.Read

variable (x0 : Vec Ideal S100000x128 .f32) (x1 : Vec Ideal S512x128 .f32) (x2 : Vec Ideal S100000 .i32) (x3 : Vec Ideal S1x256 .f32)
  (x4 : Vec Ideal S1 .f32) (x5 : Vec Ideal S128x128 .f32) (x6 : Vec Ideal S128 .f32) (x7 x8 : Vec Ideal S384x128 .f32) (x9 x10 : Vec Ideal S384 .f32)

/-- The reference's context of a segment after the exponential linear unit. -/
theorem v41_at (r : Fin 512) (f : Fin 128) :
    val_main_v41 (F := Ideal) x0 x1 x2 x3 x4 x5 x6 (ix2 r f) = elu (val_main_v40 (F := Ideal) x0 x1 x2 x3 x4 x5 x6 (ix2 r f)) := by
  unfold val_main_v41 val_main_call6_v7 val_main_call6_v6 val_main_call6_cst_2 val_main_call6_v5 val_main_call6_v4 val_main_call6_call0_v1 val_main_call6_call0_v0 val_main_call6_cst_1 val_main_call6_v3 val_main_call6_v2 val_main_call6_cst_0 val_main_call6_v1 val_main_call6_v0 val_main_call6_cst
  generalize val_main_v40 (F := Ideal) x0 x1 x2 x3 x4 x5 x6 = y
  pointwise []
  unfold elu
  by_cases h : 0 < y (ix2 r f)
  · simp only [if_pos h]
  · simp only [if_neg h]

/-- The reference's gates' part on the contexts. -/
theorem v46_at (r : Fin 512) (j : Fin 384) :
    val_main_v46 (F := Ideal) x0 x1 x2 x3 x4 x5 x6 x7 x9 (ix2 r j)
      = gi (fun r f => val_main_v40 (F := Ideal) x0 x1 x2 x3 x4 x5 x6 (ix2 r f)) (fun j k => x7 (ix2 j k)) (fun j => x9 (ix1 j)) r j := by
  have h := v41_at x0 x1 x2 x3 x4 x5 x6 r
  unfold val_main_v46 val_main_v45 val_main_v44 val_main_v43 val_main_v42 gi
  generalize val_main_v41 (F := Ideal) x0 x1 x2 x3 x4 x5 x6 = y at h ⊢
  pointwise []
  simp only [h]

/-- The reference's gates' part on the segments' features. -/
theorem v51_at (r : Fin 512) (j : Fin 384) :
    val_main_v51 (F := Ideal) x1 x8 x10 (ix2 r j) = gh (fun r k => x1 (ix2 r k)) (fun j k => x8 (ix2 j k)) (fun j => x10 (ix1 j)) r j := by
  unfold val_main_v51 val_main_v50 val_main_v49 val_main_v48 val_main_v47 gh
  pointwise []

/-- The reference's result, from its contexts. -/
theorem v79_at (r : Fin 512) (f : Fin 128) :
    val_main_v79 (F := Ideal) x0 x1 x2 x3 x4 x5 x6 x7 x8 x9 x10 (ix2 r f)
      = gated (fun r f => val_main_v40 (F := Ideal) x0 x1 x2 x3 x4 x5 x6 (ix2 r f)) (fun r k => x1 (ix2 r k)) (fun j k => x7 (ix2 j k)) (fun j k => x8 (ix2 j k))
          (fun j => x9 (ix1 j)) (fun j => x10 (ix1 j)) r f := by
  have hi := v46_at x0 x1 x2 x3 x4 x5 x6 x7 x9 r
  have hh := v51_at x1 x8 x10 r
  unfold val_main_v79 val_main_v78 val_main_v77 val_main_v76 val_main_v75 val_main_cst_9 val_main_v74 val_main_v73 val_main_v72 val_main_v71 val_main_v70 val_main_cst_8 val_main_v69 val_main_v68 val_main_cst_7 val_main_v67 val_main_v66 val_main_v65 val_main_v64 val_main_v63 val_main_cst_6 val_main_v62 val_main_v61 val_main_cst_5 val_main_v60 val_main_v59 val_main_v58 val_main_v57 val_main_v56 val_main_v55 val_main_v54 val_main_v53 val_main_v52
  generalize val_main_v46 (F := Ideal) x0 x1 x2 x3 x4 x5 x6 x7 x9 = A at hi ⊢
  generalize val_main_v51 (F := Ideal) x1 x8 x10 = B at hh ⊢
  pointwise []
  simp only [hi, hh]
  rfl

end Reference

end Cert.Proof

end
-- ==== Proof.RefOps.lean ====
/-
  The reference's lookups and accumulations by segment, read at an entry: a gather of rows takes the row the index names, and a scatter that
  adds gives each row the sum of the updates whose index names it.
-/
module

public import proofs.«01_k».proof.Proof.Gen.ReferenceIdeal.Read
public import Idealize.ShloMosaic.Lib.Pointwise
public import Idealize.ShloMosaic.Lib.Routing.OpsOne

@[expose] public section

set_option maxRecDepth 16384

noncomputable section

namespace Cert.Proof

open Idealize.ShloMosaic

section Gather

variable {α : Type} {R C B : ℕ} (d : GatherDims ⟨2, ![R, C]⟩ ⟨2, ![B, 1]⟩ ⟨2, ![B, C]⟩)

/-- A gather of rows reads, at row `n`, the row its index names, held inside the array. -/
theorem gather_row (ho : d.offsetDims = [1]) (hc : d.collapsedSliceDims = [0]) (hb : d.operandBatchingDims = []) (hm : d.startIndexMap = [0])
    (hv : d.indexVectorDim = 1) (hs : d.sliceSizes = ![1, C]) (x : (⟨2, ![R, C]⟩ : Shape).Idx → α) (idx : IVec ⟨2, ![B, 1]⟩ 32)
    (n : Fin B) (f : Fin C) (r : Fin R) (hr : (idx (ix2 n 0)).toInt = (r.val : ℤ)) : Host.gather d x idx (ix2 n f) = x (ix2 r f) := by
  obtain ⟨o, cs, ob, sb, sm, iv, ss, wf⟩ := d
  obtain rfl : o = [1] := ho
  obtain rfl : cs = [0] := hc
  obtain rfl : ob = [] := hb
  obtain rfl : sm = [0] := hm
  obtain rfl : iv = 1 := hv
  obtain rfl : ss = ![1, C] := hs
  unfold Host.gather
  refine congrArg x (funext fun a => Fin.ext ?_)
  generalize hd : (GatherDims.mk (s := ⟨2, ![R, C]⟩) (si := ⟨2, ![B, 1]⟩) (t := ⟨2, ![B, C]⟩) [1] [0] [] sb [0] 1 ![1, C] wf) = d
  show d.start (ix2 n f) idx a + d.batchCoord (ix2 n f) a + d.offCoord (ix2 n f) a = _
  rw [GatherDims.batchCoord_eq_zero _ _ _ (by subst hd; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by subst hd; exact List.mem_singleton.mpr rfl))]
    unfold GatherDims.start
    have h0 : (0 : Fin 2) ∈ d.startIndexMap := by subst hd; exact List.mem_singleton.mpr rfl
    rw [dif_pos h0]
    have hsi : d.siIdx (ix2 n f) ⟨List.idxOf (0 : Fin 2) d.startIndexMap, List.idxOf_lt_length_iff.2 h0⟩ = ix2 n 0 := by
      subst hd
      funext b; refine Fin.ext ?_
      match b with
      | ⟨0, _⟩ => rfl
      | ⟨1, _⟩ => rfl
    rw [hsi, hr]
    have h1 : d.sliceSizes 0 = 1 := by subst hd; rfl
    rw [h1]
    show min ((r.val : ℤ)).toNat (R - 1) + 0 + 0 = r.val
    have := r.isLt
    rw [Int.toNat_natCast]; omega
  · subst hd
    unfold GatherDims.start
    rw [dif_neg (by simp)]
    show 0 + 0 + f.val = f.val
    omega

end Gather

section Scatter

variable {R C B : ℕ} (d : ScatterDims ⟨2, ![R, C]⟩ ⟨2, ![B, 1]⟩ ⟨2, ![B, C]⟩)

/-- Update `(n, f)` of a scatter of rows lands at `(r, g)` exactly when its index is `r`, read signed, and `f` is `g`. -/
theorem lands_row (hu : d.updateWindowDims = [1]) (hi : d.insertedWindowDims = [0]) (hm : d.scatterDimsToOperandDims = [0]) (hv : d.indexVectorDim = 1)
    (idx : IVec ⟨2, ![B, 1]⟩ 32) (n : Fin B) (f : Fin C) (r : Fin R) (g : Fin C) :
    d.resultIdx? (ix2 n f) idx = some (ix2 r g) ↔ (idx (ix2 n 0)).toInt = (r.val : ℤ) ∧ f = g := by
  obtain ⟨u, iw, sd, iv, wf⟩ := d
  obtain rfl : u = [1] := hu
  obtain rfl : iw = [0] := hi
  obtain rfl : sd = [0] := hm
  obtain rfl : iv = 1 := hv
  generalize hd : (ScatterDims.mk (s := ⟨2, ![R, C]⟩) (si := ⟨2, ![B, 1]⟩) (u := ⟨2, ![B, C]⟩) [1] [0] [0] 1 wf) = d
  have h0 : (0 : Fin 2) ∈ d.scatterDimsToOperandDims := by subst hd; exact List.mem_singleton.mpr rfl
  have s0 : d.start (ix2 n f) idx 0 = (idx (ix2 n 0)).toInt := by
    unfold ScatterDims.start
    rw [dif_pos h0]
    have hsi : d.siIdx (ix2 n f) ⟨List.idxOf (0 : Fin 2) d.scatterDimsToOperandDims, List.idxOf_lt_length_iff.2 h0⟩ = ix2 n 0 := by
      subst hd
      funext b; refine Fin.ext ?_
      match b with
      | ⟨0, _⟩ => rfl
      | ⟨1, _⟩ => rfl
    rw [hsi]
  have s1 : d.start (ix2 n f) idx 1 = 0 := by
    unfold ScatterDims.start
    rw [dif_neg (by subst hd; simp)]
  have w0 : d.window (ix2 n f) 0 = 0 := by subst hd; rfl
  have w1 : d.window (ix2 n f) 1 = f.val := by subst hd; rfl
  have key := Idealize.ShloMosaic.Routing.resultIdx?_ix2 d (ix2 n f) idx r g
  rw [← ix2_eq_valueIdx, s0, w0, s1, w1] at key
  rw [key, Fin.ext_iff]
  omega

/-- A scatter of rows that adds gives a row its own entries and the updates whose index is that row. -/
theorem scatter_row (hu : d.updateWindowDims = [1]) (hi : d.insertedWindowDims = [0]) (hm : d.scatterDimsToOperandDims = [0]) (hv : d.indexVectorDim = 1)
    (x : FVec Ideal ⟨2, ![R, C]⟩ .f32) (idx : IVec ⟨2, ![B, 1]⟩ 32) (upd : FVec Ideal ⟨2, ![B, C]⟩ .f32) (r : Fin R) (g : Fin C) :
    Host.scatterAdd d x idx upd (ix2 r g) = x (ix2 r g) + ∑ n : Fin B, if (idx (ix2 n 0)).toInt = (r.val : ℤ) then upd (ix2 n g) else (0 : EReal) := by
  show x (ix2 r g) + ∑ j ∈ Finset.univ.filter (fun j => d.resultIdx? j idx = some (ix2 r g)), upd j = _
  refine congrArg (x (ix2 r g) + ·) ?_
  rw [Finset.sum_filter, sum_idx2]
  refine Finset.sum_congr rfl fun n _ => ?_
  simp only [lands_row d hu hi hm hv]
  rw [Finset.sum_eq_single g]
  · simp
  · intro f _ hf; rw [if_neg fun h => hf h.2]
  · intro h; exact absurd (Finset.mem_univ _) h

end Scatter

end Cert.Proof

end
-- ==== Proof.RefRead.lean ====
/-
  What the reference of `proofs.«01_k».proof.ReferenceIdeal` computes, entry by entry: a node's logit, its segment's maximum, the sums of
  exponentials and of weighted projected features by segment, and the gated update from those.
-/
module

public import proofs.«01_k».proof.Proof.RefOps
public import proofs.«01_k».proof.Proof.IdealScan

@[expose] public section

set_option maxRecDepth 16384

noncomputable section

namespace Cert.Proof

open Idealize.ShloMosaic Cert.ReferenceIdeal Cert.ReferenceIdeal.Gen Cert.ReferenceIdeal.Read
open Cert.KernelIdeal.Hand (lrelu logitArg scoreArg sel_eq ofNat_iff)

/-- Where the condition's word is set, the choice is the first. -/
theorem sel_one {α : Type} {w : BitVec 1} (x y : α) (h : w = 1#1) : Scalar.select w x y = x := by subst h; rfl

/-- A word that is a small number is not negative. -/
theorem slt_small {q : ℕ} (h : q < 512) : IntOp.cmpi .slt (BitVec.ofNat 32 q) 0#32 = 0#1 := by
  have : (BitVec.ofNat 32 q).slt 0#32 = false := by
    rw [Bool.eq_false_iff]; intro hc
    simp only [BitVec.slt, decide_eq_true_eq, BitVec.toInt_eq_toNat_cond, BitVec.toNat_ofNat] at hc
    split at hc <;> omega
  show BitVec.ofBool ((BitVec.ofNat 32 q).slt 0#32) = 0#1
  rw [this]; rfl

/-- A word that is a number below 512 passes both tests of the lookup's bounds. -/
theorem in_bounds {q : ℕ} (h : q < 512) : IntOp.cmpi .sge (BitVec.ofNat 32 q) 0#32 = 1#1 ∧ IntOp.cmpi .sle (BitVec.ofNat 32 q) 511#32 = 1#1 := by
  have e : (BitVec.ofNat 32 q).toInt = (q : ℤ) := by
    rw [BitVec.toInt_eq_toNat_of_lt (by rw [BitVec.toNat_ofNat]; omega), BitVec.toNat_ofNat, Nat.mod_eq_of_lt (by omega)]
  constructor
  · show BitVec.ofBool ((0#32).sle (BitVec.ofNat 32 q)) = 1#1
    have : (0#32).sle (BitVec.ofNat 32 q) = true := by simp [BitVec.sle, e]
    rw [this]; rfl
  · show BitVec.ofBool ((BitVec.ofNat 32 q).sle 511#32) = 1#1
    have : (BitVec.ofNat 32 q).sle 511#32 = true := by
      simp only [BitVec.sle, e, decide_eq_true_eq]
      show (q : ℤ) ≤ 511
      omega
    rw [this]; rfl

/-- A word that is a number below 512, read signed. -/
theorem toInt_small {q : ℕ} (h : q < 512) : (BitVec.ofNat 32 q).toInt = (q : ℤ) := by
  rw [BitVec.toInt_eq_toNat_of_lt (by rw [BitVec.toNat_ofNat]; omega), BitVec.toNat_ofNat, Nat.mod_eq_of_lt (by omega)]

/-- A word, read signed, is a number below 512 exactly when it is that number's word. -/
theorem toInt_iff (w : BitVec 32) {q : ℕ} (h : q < 512) : w.toInt = (q : ℤ) ↔ BitVec.ofNat 32 q = w := by
  rw [← toInt_small h, BitVec.toInt_inj]
  exact eq_comm

section Read

variable (x0 : Vec Ideal S100000x128 .f32) (x1 : Vec Ideal S512x128 .f32) (x2 : Vec Ideal S100000 .i32) (x3 : Vec Ideal S1x256 .f32) (x4 : Vec Ideal S1 .f32) (x5 : Vec Ideal S128x128 .f32) (x6 : Vec Ideal S128 .f32)

section Node

variable (n : Fin 100000) (r : Fin 512) (h : BitVec.ofNat 32 r.val = x2 (ix1 n))

include h in
/-- The first lookup's index of a node. -/
theorem call1_v5 : val_main_call1_v5 (F := Ideal) x2 (ix2 n 0) = BitVec.ofNat 32 r.val := by
  unfold val_main_call1_v5 val_main_call1_v4 val_main_call1_v3 val_main_call1_v2 val_main_call1_c_0 val_main_call1_v1 val_main_call1_v0 val_main_call1_c
  pointwise []
  rw [← h, slt_small r.isLt]; rfl

include h in
/-- The first lookup's bounds test of a node. -/
theorem call1_v12 : val_main_call1_v12 (F := Ideal) x2 (ix1 n) = 1#1 := by
  have h5 := call1_v5 x2 n r h
  unfold val_main_call1_v12 val_main_call1_v11 val_main_call1_v10 val_main_call1_v9 val_main_call1_v8 val_main_call1_v7 val_main_call1_v6 val_main_call1_c_1 val_main_call1_c_2 val_main_call1_c_3
  generalize val_main_call1_v5 (F := Ideal) x2 = y at h5 ⊢
  pointwise []
  rw [Finset.univ_unique, Finset.fold_singleton]
  have e : (default : Fin 1) = 0 := rfl
  rw [e, h5, (in_bounds r.isLt).1, (in_bounds r.isLt).2]; rfl

include h in
/-- A node's looked-up segment features, rectified. -/
theorem v1_at (f : Fin 128) : val_main_v1 (F := Ideal) x1 x2 (ix2 n f) = max (x1 (ix2 r f)) 0 := by
  have h12 := call1_v12 x2 n r h
  have h13 : val_main_call1_v13 (F := Ideal) x1 x2 (ix2 n f) = val_main_v0 (F := Ideal) x1 (ix2 r f) :=
    gather_row _ rfl rfl rfl rfl rfl rfl _ _ n f r (by rw [call1_v5 x2 n r h, toInt_small r.isLt])
  unfold val_main_v1 val_main_call1_v15 val_main_call1_cst val_main_call1_v14
  generalize val_main_call1_v12 (F := Ideal) x2 = y at h12 ⊢
  generalize val_main_call1_v13 (F := Ideal) x1 x2 = z at h13 ⊢
  pointwise []
  rw [sel_one _ _ h12, h13]
  unfold val_main_v0 val_main_call0_v0 val_main_call0_cst
  pointwise []

include h in
/-- A node's logit. -/
theorem v12_at : val_main_v12 (F := Ideal) x0 x1 x2 x3 x4 (ix2 n 0) = logitArg x0 x1 x2 x3 x4 n := by
  have h1 := v1_at x1 x2 n r h
  have hs : (∑ q : Fin 512, if BitVec.ofNat 32 q.val = x2 (ix1 n) then scoreArg x1 x3 q else 0) = scoreArg x1 x3 r := by
    rw [Finset.sum_eq_single r]
    · rw [if_pos h]
    · intro q _ hq
      rw [if_neg]; rw [← h, ofNat_iff (by omega) (by omega)]; exact fun e => hq (Fin.ext e)
    · intro hq; exact absurd (Finset.mem_univ _) hq
  unfold logitArg
  rw [hs]
  unfold val_main_v12 val_main_v11 val_main_v10 val_main_cst_0 val_main_v9 val_main_v8 val_main_cst val_main_v7 val_main_v6 val_main_v5 val_main_v4 val_main_v3 val_main_v2
  generalize val_main_v1 (F := Ideal) x1 x2 = y at h1 ⊢
  pointwise []
  simp only [h1]
  unfold lrelu scoreArg
  rw [add_comm (∑ f : Fin 128, max (x1 (ix2 r f)) 0 * x3 (ix2 0 ⟨f.val, by omega⟩))]
  simp only [mul_comm (x0 _)]

end Node

/-- A segment's maximum. -/
theorem v22_at (r : Fin 512) : val_main_v22 (F := Ideal) x0 x1 x2 x3 x4 (ix2 r 0)
    = Finset.fold max (Ideal.ofBits .f32 0xFF800000#32) (fun n : Fin 100000 => if BitVec.ofNat 32 r.val = x2 (ix1 n) then logitArg x0 x1 x2 x3 x4 n else Ideal.ofBits .f32 0xFF800000#32) Finset.univ := by
  have h12 := fun n h => v12_at x0 x1 x2 x3 x4 n r h
  unfold val_main_v22 val_main_v21 val_main_cst_2 val_main_v20 val_main_call3_v2 val_main_call3_v1 val_main_call3_v0 val_main_cst_1 val_main_v19 val_main_v18 val_main_v17 val_main_v16 val_main_v15 val_main_v14 val_main_v13
  generalize val_main_v12 (F := Ideal) x0 x1 x2 x3 x4 = y at h12 ⊢
  pointwise []
  refine Finset.fold_congr fun n _ => ?_
  rw [sel_eq]
  by_cases h : BitVec.ofNat 32 r.val = x2 (ix1 n)
  · rw [if_pos h.symm, if_pos h, h12 n h]
  · rw [if_neg fun e => h e.symm, if_neg h]
    rfl

section Node

variable (n : Fin 100000) (r : Fin 512) (h : BitVec.ofNat 32 r.val = x2 (ix1 n))

include h in
/-- A node's looked-up maximum. -/
theorem v23_at : val_main_v23 (F := Ideal) x0 x1 x2 x3 x4 (ix2 n 0) = val_main_v22 (F := Ideal) x0 x1 x2 x3 x4 (ix2 r 0) := by
  have h5 : val_main_call4_v5 (F := Ideal) x2 (ix2 n 0) = BitVec.ofNat 32 r.val := call1_v5 x2 n r h
  have h12 : val_main_call4_v12 (F := Ideal) x2 (ix1 n) = 1#1 := call1_v12 x2 n r h
  have h13 : val_main_call4_v13 (F := Ideal) x0 x1 x2 x3 x4 (ix2 n 0) = val_main_v22 (F := Ideal) x0 x1 x2 x3 x4 (ix2 r 0) :=
    gather_row _ rfl rfl rfl rfl rfl (by funext a; match a with | ⟨0, _⟩ => rfl | ⟨1, _⟩ => rfl) _ _ n 0 r (by rw [h5, toInt_small r.isLt])
  unfold val_main_v23 val_main_call4_v15 val_main_call4_cst val_main_call4_v14
  generalize val_main_call4_v12 (F := Ideal) x2 = y at h12 ⊢
  generalize val_main_call4_v13 (F := Ideal) x0 x1 x2 x3 x4 = z at h13 ⊢
  pointwise []
  rw [sel_one _ _ h12, h13]

include h in
/-- A node's exponential, relative to its segment's maximum. -/
theorem v25_at : val_main_v25 (F := Ideal) x0 x1 x2 x3 x4 (ix2 n 0)
    = Ideal.exp (logitArg x0 x1 x2 x3 x4 n - val_main_v22 (F := Ideal) x0 x1 x2 x3 x4 (ix2 r 0)) := by
  have h12 := v12_at x0 x1 x2 x3 x4 n r h
  have h23 := v23_at x0 x1 x2 x3 x4 n r h
  unfold val_main_v25 val_main_v24
  generalize val_main_v12 (F := Ideal) x0 x1 x2 x3 x4 = y at h12 ⊢
  generalize val_main_v23 (F := Ideal) x0 x1 x2 x3 x4 = z at h23 ⊢
  pointwise []
  rw [h12, h23]

end Node

/-- The scatters' index of a node is its segment. -/
theorem v27_at (n : Fin 100000) : val_main_v27 (F := Ideal) x2 (ix2 n 0) = x2 (ix1 n) := by
  unfold val_main_v27
  pointwise []

/-- A segment's sum of exponentials. -/
theorem v28_at (r : Fin 512) : val_main_v28 (F := Ideal) x0 x1 x2 x3 x4 (ix2 r 0)
    = ∑ n : Fin 100000, if BitVec.ofNat 32 r.val = x2 (ix1 n) then Ideal.exp (logitArg x0 x1 x2 x3 x4 n - val_main_v22 (F := Ideal) x0 x1 x2 x3 x4 (ix2 r 0)) else 0 := by
  have h0 : val_main_v26 (F := Ideal) (ix2 r 0) = 0 := by
    unfold val_main_v26 val_main_cst_3
    pointwise []
  refine (scatter_row _ rfl rfl rfl rfl _ _ _ r 0).trans ?_
  rw [h0, zero_add]
  refine Finset.sum_congr rfl fun n _ => ?_
  rw [v27_at, if_congr (toInt_iff _ r.isLt) rfl rfl]
  by_cases h : BitVec.ofNat 32 r.val = x2 (ix1 n)
  · rw [if_pos h, if_pos h, v25_at x0 x1 x2 x3 x4 n r h]
  · rw [if_neg h, if_neg h]

/-- A node's looked-up sum of exponentials. -/
theorem v29_at (n : Fin 100000) (r : Fin 512) (h : BitVec.ofNat 32 r.val = x2 (ix1 n)) :
    val_main_v29 (F := Ideal) x0 x1 x2 x3 x4 (ix2 n 0) = val_main_v28 (F := Ideal) x0 x1 x2 x3 x4 (ix2 r 0) := by
  have h5 : val_main_call5_v5 (F := Ideal) x2 (ix2 n 0) = BitVec.ofNat 32 r.val := call1_v5 x2 n r h
  have h12 : val_main_call5_v12 (F := Ideal) x2 (ix1 n) = 1#1 := call1_v12 x2 n r h
  have h13 : val_main_call5_v13 (F := Ideal) x0 x1 x2 x3 x4 (ix2 n 0) = val_main_v28 (F := Ideal) x0 x1 x2 x3 x4 (ix2 r 0) :=
    gather_row _ rfl rfl rfl rfl rfl (by funext a; match a with | ⟨0, _⟩ => rfl | ⟨1, _⟩ => rfl) _ _ n 0 r (by rw [h5, toInt_small r.isLt])
  unfold val_main_v29 val_main_call5_v15 val_main_call5_cst val_main_call5_v14
  generalize val_main_call5_v12 (F := Ideal) x2 = y at h12 ⊢
  generalize val_main_call5_v13 (F := Ideal) x0 x1 x2 x3 x4 = z at h13 ⊢
  pointwise []
  rw [sel_one _ _ h12, h13]

/-- A segment's context: the sum of its nodes' projected features, each by its share of the exponentials. -/
theorem v40_at (r : Fin 512) (f : Fin 128) : val_main_v40 (F := Ideal) x0 x1 x2 x3 x4 x5 x6 (ix2 r f)
    = ∑ n : Fin 100000, if BitVec.ofNat 32 r.val = x2 (ix1 n) then
        Ideal.div (Ideal.exp (logitArg x0 x1 x2 x3 x4 n - val_main_v22 (F := Ideal) x0 x1 x2 x3 x4 (ix2 r 0))) (val_main_v28 (F := Ideal) x0 x1 x2 x3 x4 (ix2 r 0))
          * (∑ k : Fin 128, x0 (ix2 n k) * x5 (ix2 f k) + x6 (ix1 f)) else 0 := by
  have h0 : val_main_v38 (F := Ideal) (ix2 r f) = 0 := by
    unfold val_main_v38 val_main_cst_4
    pointwise []
  refine (scatter_row _ rfl rfl rfl rfl _ _ _ r f).trans ?_
  rw [h0, zero_add]
  refine Finset.sum_congr rfl fun n _ => ?_
  have h39 : val_main_v39 (F := Ideal) x2 (ix2 n 0) = x2 (ix1 n) := v27_at x2 n
  rw [h39, if_congr (toInt_iff _ r.isLt) rfl rfl]
  by_cases h : BitVec.ofNat 32 r.val = x2 (ix1 n)
  · rw [if_pos h, if_pos h]
    have h25 := v25_at x0 x1 x2 x3 x4 n r h
    have h29 := v29_at x0 x1 x2 x3 x4 n r h
    unfold val_main_v37 val_main_v36 val_main_v35 val_main_v34 val_main_v33 val_main_v32 val_main_v31 val_main_v30
    generalize val_main_v25 (F := Ideal) x0 x1 x2 x3 x4 = y at h25 ⊢
    generalize val_main_v29 (F := Ideal) x0 x1 x2 x3 x4 = z at h29 ⊢
    pointwise []
    rw [h25, h29]
  · rw [if_neg h, if_neg h]

end Read

end Cert.Proof

end
-- ==== Proof.Equation.lean ====
/-
  The kernel's context of a segment is the reference's: a mean of features by any common scale of weights, projected, against the sum of
  projected features by their shares.
-/
module

public import proofs.«01_k».proof.Proof.RefRead
public import proofs.«01_k».proof.Proof.Gate

@[expose] public section

set_option maxRecDepth 16384

noncomputable section

namespace Cert.Proof

open Idealize.ShloMosaic
open Cert.KernelIdeal.Hand (St logitArg)
open Cert.ReferenceIdeal Cert.ReferenceIdeal.Read

/-- A quotient of reals, the divisor not zero. -/
theorem div_real (a b : ℝ) (h : b ≠ 0) : Ideal.div (a : EReal) (b : EReal) = ((a / b : ℝ) : EReal) := by
  rw [Ideal.div_coe h, ← EReal.coe_mul, mul_one_div]

/-- Shares that are not negative add up before or after they multiply one extended real. -/
theorem sum_share {ι : Type} (s : Finset ι) (a : ι → ℝ) (ha : ∀ i, 0 ≤ a i) (b : EReal) : (∑ i ∈ s, (a i : EReal) * b) = ((∑ i ∈ s, a i : ℝ) : EReal) * b := by
  classical
  induction s using Finset.induction_on with
  | empty => simp
  | insert i s hi ih =>
    rw [Finset.sum_insert hi, Finset.sum_insert hi, ih, EReal.coe_add,
      EReal.right_distrib_of_nonneg (EReal.coe_nonneg.2 (ha i)) (EReal.coe_nonneg.2 (Finset.sum_nonneg fun j _ => ha j))]

/-- A sum of projected values by shares that add up to one: the bias, real or not, comes out once. -/
theorem sum_shares {ι : Type} (s : Finset ι) (a h : ι → ℝ) (ha : ∀ i, 0 ≤ a i) (h1 : ∑ i ∈ s, a i = 1) (b : EReal) :
    (∑ i ∈ s, (a i : EReal) * ((h i : EReal) + b)) = ((∑ i ∈ s, a i * h i : ℝ) : EReal) + b := by
  have e : ∀ i, (a i : EReal) * ((h i : EReal) + b) = ((a i * h i : ℝ) : EReal) + (a i : EReal) * b := fun i => by
    rw [EReal.left_distrib_of_nonneg_of_ne_top (EReal.coe_nonneg.2 (ha i)) (EReal.coe_ne_top _), EReal.coe_mul]
  rw [Finset.sum_congr rfl fun i _ => e i, Finset.sum_add_distrib, sum_share s a ha, h1, coe_sum, EReal.coe_one, one_mul]

section Weights

variable (id : Fin 100000 → BitVec 32) (Z : Fin 100000 → ℝ)

/-- Weights are not negative. -/
theorem wt_nonneg (M : ℝ) (r : ℕ) (n : Fin 100000) : 0 ≤ wt id Z M r n := by
  unfold wt
  split
  · exact (Real.exp_pos _).le
  · exact le_rfl

/-- A segment with a node has a positive sum of weights. -/
theorem wt_sum_pos (M : ℝ) (r : ℕ) (n₀ : Fin 100000) (h : BitVec.ofNat 32 r = id n₀) : 0 < ∑ n, wt id Z M r n :=
  Finset.sum_pos' (fun n _ => wt_nonneg id Z M r n) ⟨n₀, Finset.mem_univ _, by unfold wt; rw [if_pos h]; exact Real.exp_pos _⟩

/-- A node's share of the weights does not depend on the reference point. -/
theorem share_eq (M X : ℝ) (r : ℕ) (n : Fin 100000) : wt id Z X r n / (∑ n, wt id Z X r n) = wt id Z M r n / ∑ n, wt id Z M r n := by
  have e : ∀ n, wt id Z X r n = wt id Z M r n * Real.exp (M - X) := fun n => (wt_move id Z M X r n).symm
  rw [Finset.sum_congr rfl fun n _ => e n, e n, ← Finset.sum_mul, mul_div_mul_right _ _ (Real.exp_pos _).ne']

end Weights

variable (x0 : Vec Ideal S100000x128 .f32) (x1 : Vec Ideal S512x128 .f32) (x2 : Vec Ideal S100000 .i32) (x3 : Vec Ideal S1x256 .f32)
  (x4 : Vec Ideal S1 .f32) (x5 : Vec Ideal S128x128 .f32) (x6 : Vec Ideal S128 .f32) (bp : Vec Ideal Cert.KernelIdeal.S1x128 .f32) (st : St Ideal)
  (Z : Fin 100000 → ℝ) (N : Fin 100000 → Fin 128 → ℝ) (P : Fin 128 → Fin 128 → ℝ) (M : ℝ)
  (hZ : ∀ n, logitArg x0 x1 x2 x3 x4 n = (Z n : EReal)) (hN : ∀ n k, x0 (ix2 n k) = (N n k : EReal)) (hP : ∀ f k, x5 (ix2 f k) = (P f k : EReal))
  (hb : ∀ f : Fin 128, bp (ix2 0 f) = x6 (ix1 f))

include hZ in
/-- The maximum of a segment with a node is a real. -/
theorem max_real (r : Fin 512) (n₀ : Fin 100000) (h : BitVec.ofNat 32 r.val = x2 (ix1 n₀)) :
    ∃ X : ℝ, val_main_v22 (F := Ideal) x0 x1 x2 x3 x4 (ix2 r 0) = X := by
  have hbot : Ideal.ofBits .f32 0xFF800000#32 = (⊥ : EReal) := by simp [Ideal.ofBits, Ideal.ieee]
  rw [v22_at, hbot]
  refine exists_real (ne_of_gt (lt_of_lt_of_le (EReal.bot_lt_coe (Z n₀)) ?_)) (ne_of_lt ?_)
  · rw [Finset.le_fold_max]
    exact Or.inr ⟨n₀, Finset.mem_univ _, by rw [if_pos h, hZ]⟩
  · rw [Finset.fold_max_lt]
    refine ⟨bot_lt_top, fun n _ => ?_⟩
    split
    · rw [hZ]; exact EReal.coe_lt_top _
    · exact bot_lt_top

include hZ hN hP hb in
/-- The kernel's context of a segment is the reference's. -/
theorem ctx_eq (hd : ∀ r : Fin 512, st.d (ix2 r 0) = ((∑ n, wt (fun n => x2 (ix1 n)) Z M r n : ℝ) : EReal))
    (hv : ∀ (r : Fin 512) (k : Fin 128), st.v (ix2 r k) = ((∑ n, wt (fun n => x2 (ix1 n)) Z M r n * N n k : ℝ) : EReal)) (r : Fin 512) (f : Fin 128) :
    ctxK x5 bp st r f = val_main_v40 (F := Ideal) x0 x1 x2 x3 x4 x5 x6 (ix2 r f) := by
  rw [v40_at]
  unfold ctxK
  by_cases hne : ∃ n₀ : Fin 100000, BitVec.ofNat 32 r.val = x2 (ix1 n₀)
  · obtain ⟨n₀, hn₀⟩ := hne
    obtain ⟨X, hX⟩ := max_real x0 x1 x2 x3 x4 Z hZ r n₀ hn₀
    have hDM := wt_sum_pos (fun n => x2 (ix1 n)) Z M r n₀ hn₀
    have hDX := wt_sum_pos (fun n => x2 (ix1 n)) Z X r n₀ hn₀
    have h28 : val_main_v28 (F := Ideal) x0 x1 x2 x3 x4 (ix2 r 0) = ((∑ n, wt (fun n => x2 (ix1 n)) Z X r n : ℝ) : EReal) := by
      rw [v28_at, coe_sum]
      refine Finset.sum_congr rfl fun n _ => ?_
      unfold wt
      rw [hX, hZ, exp_sub_coe, coe_ite]
      rfl
    have hterm : ∀ n : Fin 100000, (if BitVec.ofNat 32 r.val = x2 (ix1 n) then
        Ideal.div (Ideal.exp (logitArg x0 x1 x2 x3 x4 n - val_main_v22 (F := Ideal) x0 x1 x2 x3 x4 (ix2 r 0))) (val_main_v28 (F := Ideal) x0 x1 x2 x3 x4 (ix2 r 0))
          * (∑ k : Fin 128, x0 (ix2 n k) * x5 (ix2 f k) + x6 (ix1 f)) else 0)
        = ((wt (fun n => x2 (ix1 n)) Z M r n / ∑ n, wt (fun n => x2 (ix1 n)) Z M r n : ℝ) : EReal) * (((∑ k : Fin 128, N n k * P f k : ℝ) : EReal) + x6 (ix1 f)) := fun n => by
      rw [← share_eq _ Z M X r n]
      by_cases h : BitVec.ofNat 32 r.val = x2 (ix1 n)
      · have hw : wt (fun n => x2 (ix1 n)) Z X r n = Real.exp (Z n - X) := if_pos h
        rw [if_pos h, hX, h28, hZ, exp_sub_coe, div_real _ _ hDX.ne', hw, coe_sum]
        refine congrArg (fun s => _ * (s + x6 (ix1 f))) (Finset.sum_congr rfl fun k _ => ?_)
        rw [hN, hP, EReal.coe_mul]
      · have hw : wt (fun n => x2 (ix1 n)) Z X r n = 0 := if_neg h
        rw [if_neg h, hw, zero_div, EReal.coe_zero, zero_mul]
    rw [Finset.sum_congr rfl fun n _ => hterm n,
      sum_shares Finset.univ _ _ (fun n => div_nonneg (wt_nonneg _ Z M r n) hDM.le) (by rw [← Finset.sum_div, div_self hDM.ne'])]
    have hpos : (0 : EReal) < st.d (ix2 r 0) := by rw [hd]; exact EReal.coe_pos.2 hDM
    rw [if_pos hpos, if_pos hpos, one_mul, hb]
    refine congrArg (· + x6 (ix1 f)) ?_
    have hk : ∀ k : Fin 128, Ideal.div (st.v (ix2 r k)) (st.d (ix2 r 0)) * x5 (ix2 f k)
        = (((∑ n, wt (fun n => x2 (ix1 n)) Z M r n * N n k) / (∑ n, wt (fun n => x2 (ix1 n)) Z M r n) * P f k : ℝ) : EReal) := fun k => by
      rw [hv, hd, hP, div_real _ _ hDM.ne', ← EReal.coe_mul]
    rw [Finset.sum_congr rfl fun k _ => hk k, ← coe_sum]
    refine congrArg _ ?_
    simp only [Finset.mul_sum, Finset.sum_div, Finset.sum_mul]
    rw [Finset.sum_comm]
    refine Finset.sum_congr rfl fun n _ => Finset.sum_congr rfl fun k _ => ?_
    ring
  · have hno : ∀ n : Fin 100000, ¬ BitVec.ofNat 32 r.val = x2 (ix1 n) := fun n h => hne ⟨n, h⟩
    have hw : ∀ n : Fin 100000, wt (fun n => x2 (ix1 n)) Z M r n = 0 := fun n => if_neg (hno n)
    have hd0 : st.d (ix2 r 0) = 0 := by rw [hd, Finset.sum_eq_zero fun n _ => hw n]; rfl
    have hv0 : ∀ k : Fin 128, st.v (ix2 r k) = 0 := fun k => by
      rw [hv, Finset.sum_eq_zero fun n _ => by rw [hw n, zero_mul]]; rfl
    have hdiv : Ideal.div (0 : EReal) 1 = 0 := by simp [Ideal.div]
    rw [Finset.sum_eq_zero fun n _ => if_neg (hno n), hd0, if_neg (lt_irrefl _), if_neg (lt_irrefl _), zero_mul, add_zero]
    refine Finset.sum_eq_zero fun k _ => ?_
    rw [hv0, hdiv, zero_mul]

end Cert.Proof

end
-- ==== Proof.IdealOut.lean ====
/-
  The kernel's result on the extended reals is the reference's, where the precondition on finite inputs holds.
-/
module

public import proofs.«01_k».proof.Proof.Finite
public import proofs.«01_k».proof.Proof.Gate
public import proofs.«01_k».proof.Proof.Equation

@[expose] public section

set_option maxRecDepth 16384

noncomputable section

namespace Cert.KernelIdeal.Hand

open Idealize.ShloMosaic Idealize.ShloMosaic.TcCoe Idealize.SL.Sem Cert.KernelIdeal Cert.KernelIdeal.Gen Cert.Proof
open Idealize.ShloMosaic.Pipeline (Dat)

variable (m : (ℓ : Loc nD τ sig) → Buf (Elt Ideal) ℓ) (H : Inb m) (c : Dev nD)

/-- The last point. -/
def last : Fin cfg0.N := ⟨19, by decide⟩

/-- The precondition on one device's arguments. -/
def Fine : Prop :=
  Passed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The reference's result on one device's arguments. -/
def refOut : Vec Ideal S512x128 .f32 :=
  Cert.ReferenceIdeal.Read.val_main_v79 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

variable (hf : Fine m c)

include hf in
/-- The kernel's context of a segment is the reference's. -/
theorem ctx_last (r : Fin 512) (f : Fin 128) :
    ctxK (m ((c : Thread nD τ).loc main_arg5)) (iblk m c 6 last) (stN m H c last.val last.isLt) r f
      = Cert.ReferenceIdeal.Read.val_main_v40 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (ix2 r f) := by
  choose Z hZ using Passed.logit hf
  choose N hN using fun (n : Fin 100000) (k : Fin 128) => Passed.nodes hf (ix2 n k)
  choose P hP using fun (a k : Fin 128) => Passed.proj hf (ix2 a k)
  obtain ⟨-, M, -, hd, hv⟩ := holds_stN m H c Z N hZ hN (Passed.ids hf) last.val last.isLt
  have hd' : ∀ r : Fin 512, (stN m H c last.val last.isLt).d (ix2 r 0) = ((∑ n, wt (idOf m c) Z M r n : ℝ) : EReal) := fun r => by
    rw [hd r]
    refine congrArg Real.toEReal ((wSum_all (idOf m c) Z M r fun _ => 1).trans (Finset.sum_congr rfl fun n _ => mul_one _))
  have hv' : ∀ (r : Fin 512) (k : Fin 128), (stN m H c last.val last.isLt).v (ix2 r k) = ((∑ n, wt (idOf m c) Z M r n * N n k : ℝ) : EReal) := fun r k => by
    rw [hv r k]
    exact congrArg Real.toEReal (wSum_all (idOf m c) Z M r fun n => N n k)
  exact ctx_eq _ _ _ _ _ _ _ _ _ Z N P M hZ hN hP (fun a => iblk6_apply m c last a) hd' hv' r f

include hf in
/-- What the last point stores is the reference's result. -/
theorem out_last (r : Fin 512) (f : Fin 128) : outN m H c last (ix2 r f) = refOut m c (ix2 r f) := by
  unfold outN refOut
  rw [finish_at, v79_at, iblk2_eq, iblk5_eq, iblk7_eq, iblk8_eq]
  have hC : ctxK (m ((c : Thread nD τ).loc main_arg5)) (iblk m c 6 last) (stN m H c last.val last.isLt) = _ :=
    funext fun r => funext fun f => ctx_last m H c hf r f
  have h9 : (fun j : Fin 384 => iblk m c 9 last (ix2 0 j)) = fun j => m ((c : Thread nD τ).loc main_arg9) (ix1 j) := funext fun j => iblk9_apply m c last j
  have h10 : (fun j : Fin 384 => iblk m c 10 last (ix2 0 j)) = fun j => m ((c : Thread nD τ).loc main_arg10) (ix1 j) := funext fun j => iblk10_apply m c last j
  rw [hC, h9, h10]

include hf in
/-- The result array after the run is the reference's. -/
theorem final : (dats m H 0 c).arrAt 11 cfg0.N = refOut m c := by
  refine (dats m H 0 c).arrAt_eq_of_after_last 11 last (by decide +kernel) _ fun j => ?_
  blk_simp
  rw [after11]
  refine Eq.trans ?_ ((out_last m H c hf (j 0) (j 1)).trans ?_)
  · exact congrArg (outN m H c last) (funext fun a => by match a with | ⟨0, _⟩ => rfl | ⟨1, _⟩ => rfl)
  · refine congrArg (refOut m c) (funext fun a => Fin.ext ?_)
    match a with
    | ⟨0, _⟩ => simp [idxs last]
    | ⟨1, _⟩ => simp [idxs last]

end Cert.KernelIdeal.Hand

end
-- ==== Proof.lean ====
/-
  The claims of proofs.«01_k».proof.Defs, assembled from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_logits
public import proofs.«01_k».proof.Proof.Gen.Pre_ids_nonneg
public import proofs.«01_k».proof.Proof.BitsBlocks
public import proofs.«01_k».proof.Proof.IdealBlocks
public import proofs.«01_k».proof.Proof.Ids
public import proofs.«01_k».proof.Proof.IdealOut
public import Idealize.ShloMosaic.Adequacy
public import Idealize.ShloMosaic.Init

@[expose] public section

noncomputable section

namespace Cert.Proof

open Idealize.ShloMosaic Idealize.SL.Sem

/-- The kernel, on words, terminates with its arguments and its semaphores as they were, where no id is negative. -/
theorem frame_bits : Cert.quiescent_Kernel (hKernel := Cert.Kernel.Gen.facts) (hPre_ids_nonneg := Cert.Pre_ids_nonneg.Gen.facts) :=
  fun m g h => Cert.Kernel.Hand.frame m g (Cert.Kernel.Hand.inb m fun c n => ids_of_pre _ _ _ _ _ _ _ _ _ _ _ (h c) n)

/-- The same of the kernel on the extended reals. -/
theorem frame_ideal : Cert.quiescent_KernelIdeal (hKernelIdeal := Cert.KernelIdeal.Gen.facts) (hPre_ids_nonneg := Cert.Pre_ids_nonneg.Gen.facts) :=
  fun m g h => Cert.KernelIdeal.Hand.frame m g (Cert.KernelIdeal.Hand.inb m fun c n => ids_of_pre _ _ _ _ _ _ _ _ _ _ _ (h c) n)

/-- The reference terminates with its arguments and its semaphores as they were. -/
theorem frame_reference : Cert.quiescent_ReferenceIdeal (hReferenceIdeal := Cert.ReferenceIdeal.Gen.facts) :=
  fun m g _ => θ_run_mono (Cert.ReferenceIdeal.Value.run m g) fun r h => ⟨fun c => (h c).2, sem_eq_zero_of_no_sems (by decide) r.2⟩

/-- The kernel on the extended reals, again, under the precondition on finite inputs, which also keeps the ids from being negative. -/
theorem frame_ideal_finite : Cert.quiescent_KernelIdeal_pre_finite_logits (hKernelIdeal := Cert.KernelIdeal.Gen.facts) (hPre_finite_logits := Cert.Pre_finite_logits.Gen.facts) :=
  fun m g h => Cert.KernelIdeal.Hand.frame m g (Cert.KernelIdeal.Hand.inb m fun c n => nonneg_of_sge (congrFun (h c).1 n))

/-- The reference, again, under that precondition. -/
theorem frame_reference_finite : Cert.quiescent_ReferenceIdeal_pre_finite_logits (hReferenceIdeal := Cert.ReferenceIdeal.Gen.facts) (hPre_finite_logits := Cert.Pre_finite_logits.Gen.facts) :=
  fun m g _ => frame_reference m g trivial

/-- The kernel on the extended reals and the reference leave the same result, where the inputs to the logits are finite. -/
theorem equal_results : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' h e
  have hf : ∀ c, Cert.KernelIdeal.Hand.Fine m c := h
  have H : Cert.KernelIdeal.Hand.Inb m := Cert.KernelIdeal.Hand.inb m fun c n => (hf c).ids n
  refine ⟨fun c => Cert.KernelIdeal.Hand.refOut m c, ?_, ?_⟩
  · exact θ_run_mono (θ_run_and (Cert.KernelIdeal.Hand.run_main m g H) (Cert.KernelIdeal.Hand.unchanged m g H)) fun r k c =>
      ⟨(k.1.out_eq c 11).trans (Cert.KernelIdeal.Hand.final m H c (hf c)), k.2 c⟩
  · refine θ_run_mono (Cert.ReferenceIdeal.Value.run m' g') fun r k c => ⟨(k c).1.trans ((Cert.ReferenceIdeal.Read.val_main_v79_eq _).trans ?_), (k c).2⟩
    obtain ⟨e0, e1, e2, e3, e4, e5, e6, e7, e8, e9, e10⟩ := e c
    exact congr (congr (congr (congr (congr (congr (congr (congr (congr (congr (congrArg (Cert.ReferenceIdeal.Read.val_main_v79 (F := Ideal)) e0) e1) e2) e3) e4) e5) e6) e7) e8) e9) e10

/-- Every claim of the certificate. -/
theorem claim : Cert.Claim :=
  ⟨Cert.Kernel.Gen.facts, Cert.KernelIdeal.Gen.facts, Cert.ReferenceIdeal.Gen.facts, Cert.Pre_ids_nonneg.Gen.facts, Cert.Pre_finite_logits.Gen.facts,
    frame_bits, frame_ideal, frame_ideal_finite, frame_reference, frame_reference_finite, trivial, equal_results⟩

end Cert.Proof

end
